-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantReference (m : (ℓ : Loc Cert.QuantReference.nD Cert.QuantReference.τ Cert.QuantReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)) →
    ∃ (v0 : (c : Dev Cert.Quant.nD) → Buf (Elt Bits) ((c.tc : Thread Cert.Quant.nD Cert.Quant.τ).loc Cert.Quant.main_v2_0)) (v1 : (c : Dev Cert.Quant.nD) → Buf (Elt Bits) ((c.tc : Thread Cert.Quant.nD Cert.Quant.τ).loc Cert.Quant.main_v2_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v2_0) = v0 c
          ∧ r.2.mem ((c.tc : Thread Cert.Quant.nD Cert.Quant.τ).loc Cert.Quant.main_v2_1) = v1 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v2_0) = v0 c
          ∧ r.2.mem ((c.tc : Thread Cert.QuantReference.nD Cert.QuantReference.τ).loc Cert.QuantReference.main_v2_1) = v1 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1))

def Claim : Prop :=
  ∃ (hKernel : Cert.Kernel.Facts) (hKernelIdeal : Cert.KernelIdeal.Facts) (hReferenceIdeal : Cert.ReferenceIdeal.Facts) (hQuant : Cert.Quant.Facts) (hQuantReference : Cert.QuantReference.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantReference (hQuantReference := hQuantReference)
    ∧ preserves_Kernel_KernelIdeal
    ∧ algebraic_KernelIdeal_ReferenceIdeal (hKernelIdeal := hKernelIdeal) (hReferenceIdeal := hReferenceIdeal)
    ∧ bitexact_Quant_QuantReference (hQuant := hQuant) (hQuantReference := hQuantReference)
-- ==== Kernel.lean ====
abbrev S768x16384 : Shape := ⟨2, ![768, 16384]⟩
abbrev S16384x4608 : Shape := ⟨2, ![16384, 4608]⟩
abbrev S768x1 : Shape := ⟨2, ![768, 1]⟩
abbrev S4608 : Shape := ⟨1, ![4608]⟩
abbrev S1x768 : Shape := ⟨2, ![1, 768]⟩
abbrev S64 : Shape := ⟨1, ![64]⟩
abbrev S_ : Shape := ⟨0, ![]⟩
abbrev S128 : Shape := ⟨1, ![128]⟩
abbrev S1x128 : Shape := ⟨2, ![1, 128]⟩
abbrev S1x4608 : Shape := ⟨2, ![1, 4608]⟩
abbrev S768x4096 : Shape := ⟨2, ![768, 4096]⟩
abbrev S768x256 : Shape := ⟨2, ![768, 256]⟩
abbrev S16384x512 : Shape := ⟨2, ![16384, 512]⟩
abbrev S1x512 : Shape := ⟨2, ![1, 512]⟩
abbrev S768x512 : Shape := ⟨2, ![768, 512]⟩
abbrev S768x128 : Shape := ⟨2, ![768, 128]⟩

abbrev nBuf : Space → Nat
  | .hbm => 26
  | .vmem => 14
  | .smem => 0
  | _ => 0

abbrev bufTy : (tb : Table) → Fin (tcTables nBuf tb) → BufTy
  | .hbm, ⟨0, _⟩ => ⟨S768x16384, .fp8e4m3⟩
  | .hbm, ⟨1, _⟩ => ⟨S16384x4608, .fp8e4m3⟩
  | .hbm, ⟨2, _⟩ => ⟨S768x1, .f32⟩
  | .hbm, ⟨3, _⟩ => ⟨S4608, .f32⟩
  | .hbm, ⟨4, _⟩ => ⟨S1x768, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S1x4608, .f32⟩
  | .hbm, ⟨22, _⟩ => ⟨S768x1, .i32⟩
  | .hbm, ⟨23, _⟩ => ⟨S768x4096, .bf16⟩
  | .hbm, ⟨24, _⟩ => ⟨S768x256, .bf16⟩
  | .hbm, ⟨25, _⟩ => ⟨S768x256, .bf16⟩
  | .local _ .vmem, ⟨0, _⟩ => ⟨S768x16384, .fp8e4m3⟩
  | .local _ .vmem, ⟨1, _⟩ => ⟨S16384x512, .fp8e4m3⟩
  | .local _ .vmem, ⟨2, _⟩ => ⟨S16384x512, .fp8e4m3⟩
  | .local _ .vmem, ⟨3, _⟩ => ⟨S768x1, .f32⟩
  | .local _ .vmem, ⟨4, _⟩ => ⟨S1x512, .f32⟩
  | .local _ .vmem, ⟨5, _⟩ => ⟨S1x512, .f32⟩
  | .local _ .vmem, ⟨6, _⟩ => ⟨S768x1, .i32⟩
  | .local _ .vmem, ⟨7, _⟩ => ⟨S1x128, .f32⟩
  | .local _ .vmem, ⟨8, _⟩ => ⟨S768x512, .bf16⟩
  | .local _ .vmem, ⟨9, _⟩ => ⟨S768x512, .bf16⟩
  | .local _ .vmem, ⟨10, _⟩ => ⟨S768x256, .bf16⟩
  | .local _ .vmem, ⟨11, _⟩ => ⟨S768x256, .bf16⟩
  | .local _ .vmem, ⟨12, _⟩ => ⟨S768x128, .f32⟩
  | .local _ .vmem, ⟨13, _⟩ => ⟨S768x128, .f32⟩
  | _, _ => ⟨S768x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v15 : BitVec 1 := Scalar.cmpi .slt arg0 c8_i32
  let v16 : BitVec 32 := Scalar.extui v15
  let c0_i32_12 : BitVec 32 := 0#32
  let v17 : BitVec 1 := Scalar.cmpi .ne v16 c0_i32_12
  v17

def k0_cond3 (i : grid0.Coords) : BitVec 1 :=
  let arg0 : BitVec 32 := BitVec.ofNat 32 (i 0).val
  let c8_i32_13 : BitVec 32 := 8#32
  let v18 : BitVec 1 := Scalar.cmpi .eq arg0 c8_i32_13
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S768x16384 : Shape := ⟨2, ![768, 16384]⟩
abbrev S16384x4608 : Shape := ⟨2, ![16384, 4608]⟩
abbrev S768x1 : Shape := ⟨2, ![768, 1]⟩
abbrev S4608 : Shape := ⟨1, ![4608]⟩
abbrev S1x768 : Shape := ⟨2, ![1, 768]⟩
abbrev S64 : Shape := ⟨1, ![64]⟩
abbrev S_ : Shape := ⟨0, ![]⟩
abbrev S1x4608 : Shape := ⟨2, ![1, 4608]⟩
abbrev S1x64 : Shape := ⟨2, ![1, 64]⟩
abbrev S768x4096 : Shape := ⟨2, ![768, 4096]⟩
abbrev S768x256 : Shape := ⟨2, ![768, 256]⟩
abbrev S768x4608 : Shape := ⟨2, ![768, 4608]⟩
abbrev S768x32x128 : Shape := ⟨3, ![768, 32, 128]⟩
abbrev S768x2x128 : Shape := ⟨3, ![768, 2, 128]⟩
abbrev S768x64 : Shape := ⟨2, ![768, 64]⟩
abbrev S768x1x64 : Shape := ⟨3, ![768, 1, 64]⟩
abbrev S768x32x64 : Shape := ⟨3, ![768, 32, 64]⟩
abbrev S768x2x64 : Shape := ⟨3, ![768, 2, 64]⟩

abbrev nBuf : Space → Nat
  | .hbm => 25
  | .vmem => 9
  | .smem => 0
  | _ => 0

abbrev bufTy : (tb : Table) → Fin (tcTables nBuf tb) → BufTy
  | .hbm, ⟨0, _⟩ => ⟨S768x16384, .fp8e4m3⟩
  | .hbm, ⟨1, _⟩ => ⟨S16384x4608, .fp8e4m3⟩
  | .hbm, ⟨2, _⟩ => ⟨S768x1, .f32⟩
  | .hbm, ⟨3, _⟩ => ⟨S4608, .f32⟩
  | .hbm, ⟨4, _⟩ => ⟨S1x768, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x4608, .f32⟩
  | .hbm, ⟨20, _⟩ => ⟨S768x1, .i32⟩
  | .hbm, ⟨21, _⟩ => ⟨S1x64, .f32⟩
  | .hbm, ⟨22, _⟩ => ⟨S768x4096, .bf16⟩
  | .hbm, ⟨23, _⟩ => ⟨S768x256, .bf16⟩
  | .hbm, ⟨24, _⟩ => ⟨S768x256, .bf16⟩
  | .local _ .vmem, ⟨0, _⟩ => ⟨S768x16384, .fp8e4m3⟩
  | .local _ .vmem, ⟨1, _⟩ => ⟨S16384x4608, .fp8e4m3⟩
  | .local _ .vmem, ⟨2, _⟩ => ⟨S768x1, .f32⟩
  | .local _ .vmem, ⟨3, _⟩ => ⟨S1x4608, .f32⟩
  | .local _ .vmem, ⟨4, _⟩ => ⟨S768x1, .i32⟩
  | .local _ .vmem, ⟨5, _⟩ => ⟨S1x64, .f32⟩
  | .local _ .vmem, ⟨6, _⟩ => ⟨S768x4096, .bf16⟩
  | .local _ .vmem, ⟨7, _⟩ => ⟨S768x256, .bf16⟩
  | .local _ .vmem, ⟨8, _⟩ => ⟨S768x256, .bf16⟩
  | _, _ => ⟨S768x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S768x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Quant.lean ====
abbrev S1x768x16384 : Shape := ⟨3, ![1, 768, 16384]⟩
abbrev S16384 : Shape := ⟨1, ![16384]⟩
abbrev S768x16384 : Shape := ⟨2, ![768, 16384]⟩
abbrev S1x16384 : Shape := ⟨2, ![1, 16384]⟩
abbrev S768x1 : Shape := ⟨2, ![768, 1]⟩
abbrev S32x16384 : Shape := ⟨2, ![32, 16384]⟩
abbrev S32x1 : Shape := ⟨2, ![32, 1]⟩
abbrev S32 : Shape := ⟨1, ![32]⟩

abbrev nBuf : Space → Nat
  | .hbm => 6
  | .vmem => 7
  | .smem => 0
  | _ => 0

abbrev bufTy : (tb : Table) → Fin (tcTables nBuf tb) → BufTy
  | .hbm, ⟨0, _⟩ => ⟨S1x768x16384, .bf16⟩
  | .hbm, ⟨1, _⟩ => ⟨S16384, .f32⟩
  | .hbm, ⟨2, _⟩ => ⟨S768x16384, .bf16⟩
  | .hbm, ⟨3, _⟩ => ⟨S1x16384, .f32⟩
  | .hbm, ⟨4, _⟩ => ⟨S768x16384, .fp8e4m3⟩
  | .hbm, ⟨5, _⟩ => ⟨S768x1, .f32⟩
  | .local _ .vmem, ⟨0, _⟩ => ⟨S32x16384, .bf16⟩
  | .local _ .vmem, ⟨1, _⟩ => ⟨S32x16384, .bf16⟩
  | .local _ .vmem, ⟨2, _⟩ => ⟨S1x16384, .f32⟩
  | .local _ .vmem, ⟨3, _⟩ => ⟨S32x16384, .fp8e4m3⟩
  | .local _ .vmem, ⟨4, _⟩ => ⟨S32x16384, .fp8e4m3⟩
  | .local _ .vmem, ⟨5, _⟩ => ⟨S32x1, .f32⟩
  | .local _ .vmem, ⟨6, _⟩ => ⟨S32x1, .f32⟩
  | _, _ => ⟨S1x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantReference.lean ====
abbrev S1x768x16384 : Shape := ⟨3, ![1, 768, 16384]⟩
abbrev S16384 : Shape := ⟨1, ![16384]⟩
abbrev S768x16384 : Shape := ⟨2, ![768, 16384]⟩
abbrev S1x16384 : Shape := ⟨2, ![1, 16384]⟩
abbrev S768x1 : Shape := ⟨2, ![768, 1]⟩
abbrev S32x16384 : Shape := ⟨2, ![32, 16384]⟩
abbrev S32 : Shape := ⟨1, ![32]⟩
abbrev S32x1 : Shape := ⟨2, ![32, 1]⟩
abbrev S768 : Shape := ⟨1, ![768]⟩

abbrev nBuf : Space → Nat
  | .hbm => 6
  | .vmem => 4
  | .smem => 0
  | _ => 0

abbrev bufTy : (tb : Table) → Fin (tcTables nBuf tb) → BufTy
  | .hbm, ⟨0, _⟩ => ⟨S1x768x16384, .bf16⟩
  | .hbm, ⟨1, _⟩ => ⟨S16384, .f32⟩
  | .hbm, ⟨2, _⟩ => ⟨S768x16384, .bf16⟩
  | .hbm, ⟨3, _⟩ => ⟨S1x16384, .f32⟩
  | .hbm, ⟨4, _⟩ => ⟨S768x16384, .fp8e4m3⟩
  | .hbm, ⟨5, _⟩ => ⟨S768x1, .f32⟩
  | .local _ .vmem, ⟨0, _⟩ => ⟨S768x16384, .bf16⟩
  | .local _ .vmem, ⟨1, _⟩ => ⟨S1x16384, .f32⟩
  | .local _ .vmem, ⟨2, _⟩ => ⟨S768x16384, .fp8e4m3⟩
  | .local _ .vmem, ⟨3, _⟩ => ⟨S768x1, .f32⟩
  | _, _ => ⟨S1x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S768x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BitsCases.lean ====
/- The projection kernel's grid has nine points. At the first it also fills two scratch tables (cosines, signed sines);
   at the first eight it stores one tile of the query output; at the last it stores the key and value outputs. This module
   states those branch conditions in closed form over the points, where each output window is left alone, and names the
   memrefs the body is called on. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_2, k0_cond3, e0]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → cfg0.idle 6 (grid0.coords t) = false := by decide +kernel
/-- At the last point the body stores nothing into output 6 … -/
theorem idleAt0_6_C : ∀ t : Fin cfg0.N, ¬cond0_0 (grid0.coords t) → ¬cond0_1 (grid0.coords t) → cond0_2 (grid0.coords t) → cfg0.idle 6 (grid0.coords t) = true := by decide +kernel
/-- … whose buffer the pipeline writes back there all the same (the block it holds is the one of the point before). -/
theorem flush0_6_C : ∀ t : Fin cfg0.N, ¬cond0_0 (grid0.coords t) → ¬cond0_1 (grid0.coords t) → cond0_2 (grid0.coords t) → (cfg0.win 6).flush t = true := by decide +kernel
/-- It is not written back at the point before the last one. -/
theorem noFlush0_6_7 : ∀ t : Fin cfg0.N, t.val = 7 → (cfg0.win 6).flush t = false := by decide +kernel
/-- At the points of case A the printed configuration (`Cfg.idle`) calls output 7 idle: the case stores nothing into it. -/
theorem idleAt0_7_A : ∀ t : Fin cfg0.N, cond0_0 (grid0.coords t) → cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S768x512 .bf16 := (Memref.whole cc0_stg6_0 : Memref sig .tc .vmem S768x512 .bf16).view
/-- One staging buffer of output window 7, through which its contents are stated (`View.read_writes_of_cover`: the
    choice does not matter). -/
abbrev VO0_7 : View sig .tc .vmem S768x256 .bf16 := (Memref.whole cc0_stg7_0 : Memref sig .tc .vmem S768x256 .bf16).view
/-- One staging buffer of output window 8, through which its contents are stated (`View.read_writes_of_cover`: the
    choice does not matter). -/
abbrev VO0_8 : View sig .tc .vmem S768x256 .bf16 := (Memref.whole cc0_stg8_0 : Memref sig .tc .vmem S768x256 .bf16).view
/-- Each window's current staging memref at point `t`, spelled as the pipeline passes it (`bodyAt0`), and its wholeness. -/
abbrev ms0_0 (t : Fin cfg0.N) : Memref sig .tc .vmem S768x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x256 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x128 .f32 := Memref.whole cc0_scratch0
abbrev scM0_1 : Memref sig .tc .vmem S768x128 .f32 := Memref.whole cc0_scratch1
/-- The scratch `arg10` the kernel carries between points, as a view: what it holds is stated through it. -/
abbrev VS0_0 : View sig .tc .vmem S768x128 .f32 := scM0_0.view
/-- The scratch `arg11` the kernel carries between points, as a view: what it holds is stated through it. -/
abbrev VS0_1 : View sig .tc .vmem S768x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Proj

end
-- ==== Proof.BitsRunFirst.lean ====
/- The body of the projection kernel run once, at the first point: both tables filled, one query tile stored. -/
module

public import proofs.«01_k».proof.Proof.BitsCases

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the first point: both tables filled, one query tile stored. The lists of pieces are what
    its stores leave in each buffer, last store first; the property is the body's triple. -/
noncomputable def kernelRun0_A (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    Σ' (L6 : List (View.Piece (Elt F) S768x512 .bf16)), Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (xi7 : Vec F S768x256 .bf16) (xi8 : Vec F S768x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Proj

end
-- ==== Proof.BitsRunMiddle.lean ====
/- The body of the projection kernel run once, at points one to seven: the tables read, one query tile stored. -/
module

public import proofs.«01_k».proof.Proof.BitsRunFirst

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at points one to seven: the tables read, one query tile stored. The lists of pieces are what
    its stores leave in each buffer, last store first; the property is the body's triple. -/
noncomputable def kernelRun0_B (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) :
    Σ' (L6 : List (View.Piece (Elt F) S768x512 .bf16)), Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (xi7 : Vec F S768x256 .bf16) (xi8 : Vec F S768x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ owns (c : Thread nD τ) arg10 fullShare xs0 ∗ owns (c : Thread nD τ) arg11 fullShare xs1) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, [], [], [], [], fun xi7 xi8 E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexists _; isplitr; · ipureintro; exact harg11.read_unread _
    iexact HS1

end Cert.Kernel.Proj

end
-- ==== Proof.BitsRunLast.lean ====
/- The body of the projection kernel run once, at the last point: the tables read, the keys and the values stored, the query buffer untouched. -/
module

public import proofs.«01_k».proof.Proof.BitsRunMiddle

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last point: the tables read, the keys and the values stored, the query buffer untouched. The lists of pieces are what
    its stores leave in each buffer, last store first; the property is the body's triple. -/
noncomputable def kernelRun0_C (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xq ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xq ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ owns (c : Thread nD τ) arg11 fullShare xs1) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, ?_, [], [], fun E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexists _; iexact H7
    isplitl [H8]; · iexists _; iexact H8
    isplitl [HS0]
    · iexists _; isplitr; · ipureintro; exact harg10.read_unread _
      iexact HS0
    iexists _; isplitr; · ipureintro; exact harg11.read_unread _
    iexact HS1

end Cert.Kernel.Proj

end
-- ==== Proof.BitsContents.lean ====
/- What one run of the body of the projection kernel leaves in the buffers, as functions of what it reads: the cosine and sine
   tables, the query tile, the key and value blocks. -/
module

public import proofs.«01_k».proof.Proof.BitsRunLast
public import Idealize.ShloMosaic.Lib.Pipeline.Value

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, as functions of the inputs -/

/-- The cosine table of the positions `x4` and the frequencies `x5`. -/
abbrev cosTab (x4 : Vec F S768x1 .i32) (x5 : Vec F S1x128 .f32) : Vec F S768x128 .f32 := k0_pay2 x4 x5
/-- The table of sines, negated in the first half of the lanes. -/
abbrev sinTab (x4 : Vec F S768x1 .i32) (x5 : Vec F S1x128 .f32) : Vec F S768x128 .f32 := k0_pay3 x4 x5

/-- The four stores into the query tile, one per head, last first. -/
abbrev qPieces (x0 : Vec F S768x16384 .fp8e4m3) (x1 : Vec F S16384x512 .fp8e4m3) (x2 : Vec F S768x1 .f32) (x3 : Vec F S1x512 .f32) (ct st : Vec F S768x128 .f32) : List (View.Piece (Elt F) S768x512 .bf16) :=
  [⟨Rect.unit (s := S768x512) ![0, 384] S768x128.size inb_S768x512_S768x128_0_384, k0_pay8 x0 x1 x2 x3 ct st⟩,
   ⟨Rect.unit (s := S768x512) ![0, 256] S768x128.size inb_S768x512_S768x128_0_256, k0_pay7 x0 x1 x2 x3 ct st⟩,
   ⟨Rect.unit (s := S768x512) ![0, 128] S768x128.size inb_S768x512_S768x128_0_128, k0_pay6 x0 x1 x2 x3 ct st⟩,
   ⟨Rect.unit (s := S768x512) ![0, 0] S768x128.size inb_S768x512_S768x128_0_0, k0_pay5 x0 x1 x2 x3 ct st⟩]
/-- The two stores into the key block, last first. -/
abbrev kPieces (x0 : Vec F S768x16384 .fp8e4m3) (x1 : Vec F S16384x512 .fp8e4m3) (x2 : Vec F S768x1 .f32) (x3 : Vec F S1x512 .f32) (ct st : Vec F S768x128 .f32) : List (View.Piece (Elt F) S768x256 .bf16) :=
  [⟨Rect.unit (s := S768x256) ![0, 128] S768x128.size inb_S768x256_S768x128_0_128, k0_pay10 x0 x1 x2 x3 ct st⟩,
   ⟨Rect.unit (s := S768x256) ![0, 0] S768x128.size inb_S768x256_S768x128_0_0, k0_pay9 x0 x1 x2 x3 ct st⟩]

/-- The query tile the stores leave, -/
def qTile (x0 : Vec F S768x16384 .fp8e4m3) (x1 : Vec F S16384x512 .fp8e4m3) (x2 : Vec F S768x1 .f32) (x3 : Vec F S1x512 .f32) (ct st : Vec F S768x128 .f32) : Vec F S768x512 .bf16 := View.canon (qPieces x0 x1 x2 x3 ct st)
/-- the key block, -/
def kBlock (x0 : Vec F S768x16384 .fp8e4m3) (x1 : Vec F S16384x512 .fp8e4m3) (x2 : Vec F S768x1 .f32) (x3 : Vec F S1x512 .f32) (ct st : Vec F S768x128 .f32) : Vec F S768x256 .bf16 := View.canon (kPieces x0 x1 x2 x3 ct st)
/-- and the value block. -/
def vBlock (x0 : Vec F S768x16384 .fp8e4m3) (x1 : Vec F S16384x512 .fp8e4m3) (x2 : Vec F S768x1 .f32) (x3 : Vec F S1x512 .f32) : Vec F S768x256 .bf16 := k0_pay11 x0 x1 x2 x3

theorem qPieces_cover (x0 : Vec F S768x16384 .fp8e4m3) (x1 : Vec F S16384x512 .fp8e4m3) (x2 : Vec F S768x1 .f32) (x3 : Vec F S1x512 .f32) (ct st : Vec F S768x128 .f32) (y : S768x512.Idx) : ∃ pc ∈ qPieces x0 x1 x2 x3 ct st, y ∈ pc.1.set :=
  View.cover_of_tiledL (qPieces x0 x1 x2 x3 ct st) S768x128.size (by sl_kernel_rfl) y
theorem kPieces_cover (x0 : Vec F S768x16384 .fp8e4m3) (x1 : Vec F S16384x512 .fp8e4m3) (x2 : Vec F S768x1 .f32) (x3 : Vec F S1x512 .f32) (ct st : Vec F S768x128 .f32) (y : S768x256.Idx) : ∃ pc ∈ kPieces x0 x1 x2 x3 ct st, y ∈ pc.1.set :=
  View.cover_of_tiledL (kPieces x0 x1 x2 x3 ct st) S768x128.size (by sl_kernel_rfl) y

theorem zeros2 : (![0, 0] : Fin 2 → Nat) = fun _ => 0 := by
  funext a; match a with | ⟨0, _⟩ => rfl | ⟨1, _⟩ => rfl

/-- One store at zero offsets over the whole shape covers it. -/
theorem whole_cover {s : Shape} {e : EltTy} {off : Fin s.rank → Nat} (h : off = fun _ => 0)
    (inb : ∀ x, off x + s.size x ≤ s.size x) (w : s.Idx → Elt F e) :
    ∀ y, ∃ p ∈ [(⟨Rect.unit (s := s) off s.size inb, w⟩ : View.Piece (Elt F) s e)], y ∈ p.1.set :=
  fun y => ⟨_, List.mem_singleton_self _, View.mem_set_unit_zero h inb y⟩

/-- A load of a whole memref at zero offsets reads what the memref holds. -/
theorem readAt_whole {s : Shape} {e : EltTy} {off : Fin s.rank → Nat} (a : Memref sig .tc .vmem s e) (ha : a.IsWhole)
    (h : off = fun _ => 0) (inb : ∀ x, off x + s.size x ≤ s.size x) (x : s.Idx → Elt F e) :
    View.readAt (Elt F) a.view (Rect.unit (s := s) off s.size inb).toLoadRect (ha.unread x) = x :=
  (View.readAt_eq_ld _ _ _).trans ((congrArg (fun z => View.ld z _) (ha.read_unread x)).trans (View.ld_unit_zero h inb x))

/-! ## What each run leaves, as those blocks -/

theorem qPieces_congr {x0 y0 : Vec F S768x16384 .fp8e4m3} {x1 y1 : Vec F S16384x512 .fp8e4m3} {x2 y2 : Vec F S768x1 .f32}
    {x3 y3 : Vec F S1x512 .f32} {ct ct' st st' : Vec F S768x128 .f32} (h0 : x0 = y0) (h1 : x1 = y1) (h2 : x2 = y2) (h3 : x3 = y3)
    (h4 : ct = ct') (h5 : st = st') : qPieces x0 x1 x2 x3 ct st = qPieces y0 y1 y2 y3 ct' st' := by
  subst h0 h1 h2 h3 h4 h5; rfl
theorem kPieces_congr {x0 y0 : Vec F S768x16384 .fp8e4m3} {x1 y1 : Vec F S16384x512 .fp8e4m3} {x2 y2 : Vec F S768x1 .f32}
    {x3 y3 : Vec F S1x512 .f32} {ct ct' st st' : Vec F S768x128 .f32} (h0 : x0 = y0) (h1 : x1 = y1) (h2 : x2 = y2) (h3 : x3 = y3)
    (h4 : ct = ct') (h5 : st = st') : kPieces x0 x1 x2 x3 ct st = kPieces y0 y1 y2 y3 ct' st' := by
  subst h0 h1 h2 h3 h4 h5; rfl
abbrev vPieces (x0 : Vec F S768x16384 .fp8e4m3) (x1 : Vec F S16384x512 .fp8e4m3) (x2 : Vec F S768x1 .f32) (x3 : Vec F S1x512 .f32) : List (View.Piece (Elt F) S768x256 .bf16) :=
  [⟨Rect.unit (s := S768x256) ![0, 0] S768x256.size inb_S768x256_S768x256_0_0, vBlock x0 x1 x2 x3⟩]
theorem vPieces_congr {x0 y0 : Vec F S768x16384 .fp8e4m3} {x1 y1 : Vec F S16384x512 .fp8e4m3} {x2 y2 : Vec F S768x1 .f32}
    {x3 y3 : Vec F S1x512 .f32} (h0 : x0 = y0) (h1 : x1 = y1) (h2 : x2 = y2) (h3 : x3 = y3) :
    vPieces x0 x1 x2 x3 = vPieces y0 y1 y2 y3 := by
  subst h0 h1 h2 h3; rfl
abbrev tabPiece (t : Vec F S768x128 .f32) : List (View.Piece (Elt F) S768x128 .f32) :=
  [⟨Rect.unit (s := S768x128) ![0, 0] S768x128.size inb_S768x128_S768x128_0_0, t⟩]

theorem first_cosPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.1 = tabPiece (cosTab x4 x5) := by
  unfold kernelRun0_A; dsimp only
  unfold kernelRun0_A.sl.HS0_1
  exact congrArg tabPiece (congrArg₂ cosTab (readAt_whole arg5 harg5 zeros2 inb_S768x1_S768x1_0_0 x4) (readAt_whole arg6 harg6 zeros2 inb_S1x128_S1x128_0_0 x5))
theorem first_sinPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.2.1 = tabPiece (sinTab x4 x5) := by
  unfold kernelRun0_A; dsimp only
  unfold kernelRun0_A.sl.HS1_1
  exact congrArg tabPiece (congrArg₂ sinTab (readAt_whole arg5 harg5 zeros2 inb_S768x1_S768x1_0_0 x4) (readAt_whole arg6 harg6 zeros2 inb_S1x128_S1x128_0_0 x5))
theorem first_qPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).1 = qPieces x0 x1 x2 x3 (cosTab x4 x5) (sinTab x4 x5) := by
  unfold kernelRun0_A; dsimp only
  unfold kernelRun0_A.sl.v13 kernelRun0_A.sl.v14 kernelRun0_A.sl.HS0_1 kernelRun0_A.sl.HS1_1
  exact qPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3)
    ((View.readCov_unit_zero _ zeros2 inb_S768x128_S768x128_0_0 _).trans (congrArg₂ cosTab (readAt_whole arg5 harg5 zeros2 inb_S768x1_S768x1_0_0 x4) (readAt_whole arg6 harg6 zeros2 inb_S1x128_S1x128_0_0 x5)))
    ((View.readCov_unit_zero _ zeros2 inb_S768x128_S768x128_0_0 _).trans (congrArg₂ sinTab (readAt_whole arg5 harg5 zeros2 inb_S768x1_S768x1_0_0 x4) (readAt_whole arg6 harg6 zeros2 inb_S1x128_S1x128_0_0 x5)))
theorem middle_qPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) :
    (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1).1 = qPieces x0 x1 x2 x3 xs0 xs1 := by
  unfold kernelRun0_B; dsimp only
  exact qPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3) (readAt_whole arg10 harg10 zeros2 inb_S768x128_S768x128_0_0 xs0) (readAt_whole arg11 harg11 zeros2 inb_S768x128_S768x128_0_0 xs1)
theorem last_kPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).1 = kPieces x0 x1 x2 x3 xs0 xs1 := by
  unfold kernelRun0_C; dsimp only
  exact kPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3) (readAt_whole arg10 harg10 zeros2 inb_S768x128_S768x128_0_0 xs0) (readAt_whole arg11 harg11 zeros2 inb_S768x128_S768x128_0_0 xs1)
theorem last_vPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).2.1 = vPieces x0 x1 x2 x3 := by
  unfold kernelRun0_C; dsimp only
  exact vPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3)
theorem first_cos (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg10.view.ty.Contents (Elt F)) :
    arg10.view.read (Elt F) (arg10.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.1) = cosTab x4 x5 := by
  exact (View.read_writes_eq_canon _ _ _ (by rw [first_cosPieces]; exact whole_cover zeros2 _ _)).trans (by rw [first_cosPieces]; exact View.canon_unit_zero zeros2 _ _)
theorem first_sin (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg11.view.ty.Contents (Elt F)) :
    arg11.view.read (Elt F) (arg11.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.2.1) = sinTab x4 x5 := by
  exact (View.read_writes_eq_canon _ _ _ (by rw [first_sinPieces]; exact whole_cover zeros2 _ _)).trans (by rw [first_sinPieces]; exact View.canon_unit_zero zeros2 _ _)
theorem first_q (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg7.view.ty.Contents (Elt F)) :
    arg7.view.read (Elt F) (arg7.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).1) = qTile x0 x1 x2 x3 (cosTab x4 x5) (sinTab x4 x5) := by
  exact (View.read_writes_eq_canon _ _ _ (by rw [first_qPieces]; exact qPieces_cover _ _ _ _ _ _)).trans (by rw [first_qPieces]; rfl)
theorem middle_q (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32)
    (f : arg7.view.ty.Contents (Elt F)) :
    arg7.view.read (Elt F) (arg7.view.writes (Elt F) f (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1).1) = qTile x0 x1 x2 x3 xs0 xs1 := by
  exact (View.read_writes_eq_canon _ _ _ (by rw [middle_qPieces]; exact qPieces_cover _ _ _ _ _ _)).trans (by rw [middle_qPieces]; rfl)
theorem last_k (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16)
    (f : arg8.view.ty.Contents (Elt F)) :
    arg8.view.read (Elt F) (arg8.view.writes (Elt F) f (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).1) = kBlock x0 x1 x2 x3 xs0 xs1 := by
  exact (View.read_writes_eq_canon _ _ _ (by rw [last_kPieces]; exact kPieces_cover _ _ _ _ _ _)).trans (by rw [last_kPieces]; rfl)
theorem last_v (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16)
    (f : arg9.view.ty.Contents (Elt F)) :
    arg9.view.read (Elt F) (arg9.view.writes (Elt F) f (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).2.1) = vBlock x0 x1 x2 x3 := by
  exact (View.read_writes_eq_canon _ _ _ (by rw [last_vPieces]; exact whole_cover zeros2 _ _)).trans (by rw [last_vPieces]; exact View.canon_unit_zero zeros2 _ _)

end Cert.Kernel.Proj

end
-- ==== Proof.BitsFrame.lean ====
/- The run of the projection kernel over its nine points: what every staging buffer and both tables hold point by point, the
   body's obligation at each point, the run of the whole program and its frame (it ends, with the arguments unchanged and
   every semaphore counter at zero). -/
module

public import proofs.«01_k».proof.Proof.BitsContents
public import Idealize.ShloMosaic.Lib.Claim

@[expose] public section

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the last point the query window is never idle. -/
theorem liveAt0_6_at : ∀ t : Fin cfg0.N, t.val < 8 → cfg0.idle 6 (grid0.coords t) = false := by decide +kernel

/-! ## What the buffers hold, point by point -/

/-- The first point of the grid. -/
abbrev t0 : Fin cfg0.N := ⟨0, lt_of_lt_of_eq (by decide) (N_0 : cfg0.N = 9).symm⟩
/-- The point whose tile the query buffer holds after point `t`: `t`, but for the last point the one before. -/
def qPoint (t : Fin cfg0.N) : Fin cfg0.N := if t.val < 8 then t else ⟨7, lt_of_lt_of_eq (by decide) (N_0 : cfg0.N = 9).symm⟩

/-- The cosine table, which the first point stores and every point reads, -/
def cosAt (c : Dev nD) : Vec F S768x128 .f32 := cosTab (iblk m c 4 t0) (iblk m c 5 t0)
/-- and the signed sine table. -/
def sinAt (c : Dev nD) : Vec F S768x128 .f32 := sinTab (iblk m c 4 t0) (iblk m c 5 t0)
/-- The query tile of point `t`. -/
def qAt (c : Dev nD) (t : Fin cfg0.N) : Vec F S768x512 .bf16 :=
  qTile (iblk m c 0 t) (iblk m c 1 t) (iblk m c 2 t) (iblk m c 3 t) (cosAt m c) (sinAt m c)
/-- The keys, as point `t` would store them (only the last one does). -/
def kAt (c : Dev nD) (t : Fin cfg0.N) : Vec F S768x256 .bf16 :=
  kBlock (iblk m c 0 t) (iblk m c 1 t) (iblk m c 2 t) (iblk m c 3 t) (cosAt m c) (sinAt m c)
/-- The values, as point `t` would store them (only the last one does). -/
def vAt (c : Dev nD) (t : Fin cfg0.N) : Vec F S768x256 .bf16 :=
  vBlock (iblk m c 0 t) (iblk m c 1 t) (iblk m c 2 t) (iblk m c 3 t)

theorem qPoint_of_lt (t : Fin cfg0.N) (h : t.val < 8) : qPoint t = t := by unfold qPoint; rw [if_pos h]
theorem qPoint_last (t : Fin cfg0.N) (h : ¬ t.val < 8) : (qPoint t).val = 7 := by unfold qPoint; rw [if_neg h]

theorem eq_t0 (t : Fin cfg0.N) (h : t.val = 0) : t = t0 := Fin.ext h
theorem cosTab_first (c : Dev nD) (t : Fin cfg0.N) (h : t.val = 0) : cosTab (iblk m c 4 t) (iblk m c 5 t) = cosAt m c := by
  rw [eq_t0 t h]; rfl
theorem sinTab_first (c : Dev nD) (t : Fin cfg0.N) (h : t.val = 0) : sinTab (iblk m c 4 t) (iblk m c 5 t) = sinAt m c := by
  rw [eq_t0 t h]; rfl
theorem qTile_first (c : Dev nD) (t : Fin cfg0.N) (h : t.val = 0) :
    qTile (iblk m c 0 t) (iblk m c 1 t) (iblk m c 2 t) (iblk m c 3 t) (cosTab (iblk m c 4 t) (iblk m c 5 t))
      (sinTab (iblk m c 4 t) (iblk m c 5 t)) = qAt m c t := by
  rw [eq_t0 t h]; rfl

/-- The invariant before position `n`: before the first point the scratch at anything; afterwards the two tables. -/
def PhiS (c : Dev nD) : (n : ℕ) → n ≤ cfg0.N → sProp 𝕄
  | 0, _ => Pipeline.ΦA spec0 c
  | n + 1, hn => iprop(iprop(owns (c : Thread nD τ) scM0_0 fullShare (cosAt m c) ∗ owns (c : Thread nD τ) scM0_1 fullShare (sinAt m c)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (cosAt m c) ∗ owns (c : Thread nD τ) scM0_1 fullShare (sinAt m c)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (cosAt m c) ∗ owns (c : Thread nD τ) scM0_1 fullShare (sinAt m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c (qPoint t)
    | ⟨7, _⟩ => kAt m c t
    | ⟨8, _⟩ => vAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qAt m c (qPoint t) := by dsimp only [dats]
theorem after0_7 (c : Dev nD) (t : Fin cfg0.N) : (dats m 0 c).after 7 t = kAt m c t := by dsimp only [dats]
theorem after0_8 (c : Dev nD) (t : Fin cfg0.N) : (dats m 0 c).after 8 t = vAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At the last point the query buffer holds the tile the point before stored: it was not written back in between. -/
theorem before0_6_last (c : Dev nD) (t : Fin cfg0.N) (h : ¬ t.val < 8) (d) :
    (dats m 0 c).before 6 t d = qAt m c (qPoint t) := by
  have hN : t.val < 9 := lt_of_lt_of_eq t.isLt (show cfg0.N = 9 from N_0)
  have ht : t.val ≠ 0 := by omega
  have h7 : t.val - 1 = 7 := by omega
  have hp : t.val - 1 < cfg0.N := lt_of_le_of_lt (Nat.sub_le _ _) t.isLt
  rw [(dats m 0 c).before_of_pos 6 t ht ((cfg0.win 6).fetch_out rfl t), noFlush0_6_7 ⟨t.val - 1, hp⟩ h7, if_neg Bool.false_ne_true]
  unfold Dat.left
  rw [show cfg0.idle 6 (cfg0.grid.coords ⟨t.val - 1, hp⟩) = false from
    liveAt0_6_at ⟨t.val - 1, hp⟩ (by show t.val - 1 < 8; omega)]
  show (dats m 0 c).kept 6 ⟨t.val - 1, _⟩ d = _
  unfold Dat.kept
  rw [Pipeline.fill_of_clip_none (cfg := cfg0) 6 _ (fun _ => rfl) d ((dats m 0 c).after 6 _), Window.fill_cut, after0_6]
  congr 1
  exact Fin.ext (by rw [qPoint_last t h, qPoint_of_lt _ (by show t.val - 1 < 8; omega)]; exact h7)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
        rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [qPoint_of_lt _ h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          iintro ⟨H0, H1, H2, H3, H4, H5, ⟨%e6, H6⟩, H7, H8, ⟨%es0, HS0⟩, ⟨%es1, HS1⟩⟩
          isplitl [HS0 HS1 Hg]
          · isplitl [HS0 HS1]
            · isplitl [HS0]
              · unfold owns; iexists _; isplitr
                swap; · iexact HS0
                ipureintro; exact (first_cos c _ _ _ _ _ _ _ _ _ _ _ _ _ _ _ _ _ _ _ _ _ _ _ _ _ _ _ _ _ _ _ _ _).trans (cosTab_first m c t hz)
              unfold owns; iexists _; isplitr
              swap; · iexact HS1
              ipureintro; exact (first_sin c _ _ _ _ _ _ _ _ _ _ _ _ _ _ _ _ _ _ _ _ _ _ _ _ _ _ _ _ _ _ _ _ _).trans (sinTab_first m c t hz)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact (first_q c _ _ _ _ _ _ _ _ _ _ _ _ _ _ _ _ _ _ _ _ _ _ _ _ _ _ _ _ _ _ _ _ _).trans (qTile_first m c t hz)
          isplitl [H7]; · iexists _; iexact H7
          iexists _; iexact H8
        · exfalso; have hN : t.val < 9 := lt_of_lt_of_eq t.isLt (show cfg0.N = 9 from N_0); omega
    · exfalso; omega
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        by_cases hz : t.val = 0
        · exfalso; have hN : t.val < 9 := lt_of_lt_of_eq t.isLt (show cfg0.N = 9 from N_0); omega
        · rw [PhiS_castSucc m c t, PhiS_pos m c _ _ hz]
          rw [qPoint_of_lt _ h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          iintro ⟨H0, H1, H2, H3, H4, H5, ⟨%e6, H6⟩, H7, H8, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact middle_q c _ _ _ _ _ _ _ _ _ _ _ _ _ _ _ _ _ _ _ _ _ _ _ _ _ _ _ _ _ _ _ _ _ _ _
          isplitl [H7]; · iexists _; iexact H7
          iexists _; iexact H8
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [idleAt0_6_C t (fun h => h0 ((hcond0_0 t).mp h)) (fun h => h1 ((hcond0_1 t).mp h)) ((hcond0_2 t).mpr h2), flush0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        by_cases hz : t.val = 0
        · exfalso; have hN : t.val < 9 := lt_of_lt_of_eq t.isLt (show cfg0.N = 9 from N_0); omega
        · rw [PhiS_castSucc m c t, PhiS_pos m c _ _ hz]
          simp only [before0_6_last m c t h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [HS0]; · iexact HS0
          isplitl [HS1]; · iexact HS1
          iintro ⟨H0, H1, H2, H3, H4, H5, H6, ⟨%e7, H7⟩, ⟨%e8, H8⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact last_k c _ _ _ _ _ _ _ _ _ _ _ _ _ _ _ _ _ _ _ _ _ _ _ _ _ _ _ _ _ _ _ _ _ _ _ _
          unfold owns; iexists _; isplitr
          swap; · iexact H8
          ipureintro; exact last_v c _ _ _ _ _ _ _ _ _ _ _ _ _ _ _ _ _ _ _ _ _ _ _ _ _ _ _ _ _ _ _ _ _ _ _ _
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Proj

end
-- ==== Proof.Cases.lean ====
/- The projection kernel's grid has nine points. At the first it also fills two scratch tables (cosines, signed sines);
   at the first eight it stores one tile of the query output; at the last it stores the key and value outputs. This module
   states those branch conditions in closed form over the points, where each output window is left alone, and names the
   memrefs the body is called on. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_2, k0_cond3, e0]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → cfg0.idle 6 (grid0.coords t) = false := by decide +kernel
/-- At the last point the body stores nothing into output 6 … -/
theorem idleAt0_6_C : ∀ t : Fin cfg0.N, ¬cond0_0 (grid0.coords t) → ¬cond0_1 (grid0.coords t) → cond0_2 (grid0.coords t) → cfg0.idle 6 (grid0.coords t) = true := by decide +kernel
/-- … whose buffer the pipeline writes back there all the same (the block it holds is the one of the point before). -/
theorem flush0_6_C : ∀ t : Fin cfg0.N, ¬cond0_0 (grid0.coords t) → ¬cond0_1 (grid0.coords t) → cond0_2 (grid0.coords t) → (cfg0.win 6).flush t = true := by decide +kernel
/-- It is not written back at the point before the last one. -/
theorem noFlush0_6_7 : ∀ t : Fin cfg0.N, t.val = 7 → (cfg0.win 6).flush t = false := by decide +kernel
/-- At the points of case A the printed configuration (`Cfg.idle`) calls output 7 idle: the case stores nothing into it. -/
theorem idleAt0_7_A : ∀ t : Fin cfg0.N, cond0_0 (grid0.coords t) → cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → ¬cond0_1 (grid0.coords t) → cond0_2 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S768x512 .bf16 := (Memref.whole cc0_stg6_0 : Memref sig .tc .vmem S768x512 .bf16).view
/-- One staging buffer of output window 7, through which its contents are stated (`View.read_writes_of_cover`: the
    choice does not matter). -/
abbrev VO0_7 : View sig .tc .vmem S768x256 .bf16 := (Memref.whole cc0_stg7_0 : Memref sig .tc .vmem S768x256 .bf16).view
/-- One staging buffer of output window 8, through which its contents are stated (`View.read_writes_of_cover`: the
    choice does not matter). -/
abbrev VO0_8 : View sig .tc .vmem S768x256 .bf16 := (Memref.whole cc0_stg8_0 : Memref sig .tc .vmem S768x256 .bf16).view
/-- Each window's current staging memref at point `t`, spelled as the pipeline passes it (`bodyAt0`), and its wholeness. -/
abbrev ms0_0 (t : Fin cfg0.N) : Memref sig .tc .vmem S768x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S768x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x256 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x128 .f32 := Memref.whole cc0_scratch0
abbrev scM0_1 : Memref sig .tc .vmem S768x128 .f32 := Memref.whole cc0_scratch1
/-- The scratch `arg10` the kernel carries between points, as a view: what it holds is stated through it. -/
abbrev VS0_0 : View sig .tc .vmem S768x128 .f32 := scM0_0.view
/-- The scratch `arg11` the kernel carries between points, as a view: what it holds is stated through it. -/
abbrev VS0_1 : View sig .tc .vmem S768x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Proj

end
-- ==== Proof.RunFirst.lean ====
/- The body of the projection kernel run once, at the first point: both tables filled, one query tile stored. -/
module

public import proofs.«01_k».proof.Proof.Cases

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the first point: both tables filled, one query tile stored. The lists of pieces are what
    its stores leave in each buffer, last store first; the property is the body's triple. -/
noncomputable def kernelRun0_A (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    Σ' (L6 : List (View.Piece (Elt F) S768x512 .bf16)), Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (xi7 : Vec F S768x256 .bf16) (xi8 : Vec F S768x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Proj

end
-- ==== Proof.RunMiddle.lean ====
/- The body of the projection kernel run once, at points one to seven: the tables read, one query tile stored. -/
module

public import proofs.«01_k».proof.Proof.RunFirst

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at points one to seven: the tables read, one query tile stored. The lists of pieces are what
    its stores leave in each buffer, last store first; the property is the body's triple. -/
noncomputable def kernelRun0_B (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) :
    Σ' (L6 : List (View.Piece (Elt F) S768x512 .bf16)), Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (xi7 : Vec F S768x256 .bf16) (xi8 : Vec F S768x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ owns (c : Thread nD τ) arg10 fullShare xs0 ∗ owns (c : Thread nD τ) arg11 fullShare xs1) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, [], [], [], [], fun xi7 xi8 E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexists _; isplitr; · ipureintro; exact harg11.read_unread _
    iexact HS1

end Cert.KernelIdeal.Proj

end
-- ==== Proof.RunLast.lean ====
/- The body of the projection kernel run once, at the last point: the tables read, the keys and the values stored, the query buffer untouched. -/
module

public import proofs.«01_k».proof.Proof.RunMiddle

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at the last point: the tables read, the keys and the values stored, the query buffer untouched. The lists of pieces are what
    its stores leave in each buffer, last store first; the property is the body's triple. -/
noncomputable def kernelRun0_C (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    Σ' (L7 : List (View.Piece (Elt F) S768x256 .bf16)), Σ' (L8 : List (View.Piece (Elt F) S768x256 .bf16)), Σ' (LS0 : List (View.Piece (Elt F) S768x128 .f32)), { LS1 : List (View.Piece (Elt F) S768x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xq ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xq ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ owns (c : Thread nD τ) arg11 fullShare xs1) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11) K } := by
  refine ⟨?_, ?_, [], [], fun E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexists _; iexact H7
    isplitl [H8]; · iexists _; iexact H8
    isplitl [HS0]
    · iexists _; isplitr; · ipureintro; exact harg10.read_unread _
      iexact HS0
    iexists _; isplitr; · ipureintro; exact harg11.read_unread _
    iexact HS1

end Cert.KernelIdeal.Proj

end
-- ==== Proof.Contents.lean ====
/- What one run of the body of the projection kernel leaves in the buffers, as functions of what it reads: the cosine and sine
   tables, the query tile, the key and value blocks. -/
module

public import proofs.«01_k».proof.Proof.RunLast
public import Idealize.ShloMosaic.Lib.Pipeline.Value

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, as functions of the inputs -/

/-- The cosine table of the positions `x4` and the frequencies `x5`. -/
abbrev cosTab (x4 : Vec F S768x1 .i32) (x5 : Vec F S1x128 .f32) : Vec F S768x128 .f32 := k0_pay2 x4 x5
/-- The table of sines, negated in the first half of the lanes. -/
abbrev sinTab (x4 : Vec F S768x1 .i32) (x5 : Vec F S1x128 .f32) : Vec F S768x128 .f32 := k0_pay3 x4 x5

/-- The four stores into the query tile, one per head, last first. -/
abbrev qPieces (x0 : Vec F S768x16384 .fp8e4m3) (x1 : Vec F S16384x512 .fp8e4m3) (x2 : Vec F S768x1 .f32) (x3 : Vec F S1x512 .f32) (ct st : Vec F S768x128 .f32) : List (View.Piece (Elt F) S768x512 .bf16) :=
  [⟨Rect.unit (s := S768x512) ![0, 384] S768x128.size inb_S768x512_S768x128_0_384, k0_pay8 x0 x1 x2 x3 ct st⟩,
   ⟨Rect.unit (s := S768x512) ![0, 256] S768x128.size inb_S768x512_S768x128_0_256, k0_pay7 x0 x1 x2 x3 ct st⟩,
   ⟨Rect.unit (s := S768x512) ![0, 128] S768x128.size inb_S768x512_S768x128_0_128, k0_pay6 x0 x1 x2 x3 ct st⟩,
   ⟨Rect.unit (s := S768x512) ![0, 0] S768x128.size inb_S768x512_S768x128_0_0, k0_pay5 x0 x1 x2 x3 ct st⟩]
/-- The two stores into the key block, last first. -/
abbrev kPieces (x0 : Vec F S768x16384 .fp8e4m3) (x1 : Vec F S16384x512 .fp8e4m3) (x2 : Vec F S768x1 .f32) (x3 : Vec F S1x512 .f32) (ct st : Vec F S768x128 .f32) : List (View.Piece (Elt F) S768x256 .bf16) :=
  [⟨Rect.unit (s := S768x256) ![0, 128] S768x128.size inb_S768x256_S768x128_0_128, k0_pay10 x0 x1 x2 x3 ct st⟩,
   ⟨Rect.unit (s := S768x256) ![0, 0] S768x128.size inb_S768x256_S768x128_0_0, k0_pay9 x0 x1 x2 x3 ct st⟩]

/-- The query tile the stores leave, -/
def qTile (x0 : Vec F S768x16384 .fp8e4m3) (x1 : Vec F S16384x512 .fp8e4m3) (x2 : Vec F S768x1 .f32) (x3 : Vec F S1x512 .f32) (ct st : Vec F S768x128 .f32) : Vec F S768x512 .bf16 := View.canon (qPieces x0 x1 x2 x3 ct st)
/-- the key block, -/
def kBlock (x0 : Vec F S768x16384 .fp8e4m3) (x1 : Vec F S16384x512 .fp8e4m3) (x2 : Vec F S768x1 .f32) (x3 : Vec F S1x512 .f32) (ct st : Vec F S768x128 .f32) : Vec F S768x256 .bf16 := View.canon (kPieces x0 x1 x2 x3 ct st)
/-- and the value block. -/
def vBlock (x0 : Vec F S768x16384 .fp8e4m3) (x1 : Vec F S16384x512 .fp8e4m3) (x2 : Vec F S768x1 .f32) (x3 : Vec F S1x512 .f32) : Vec F S768x256 .bf16 := k0_pay11 x0 x1 x2 x3

theorem qPieces_cover (x0 : Vec F S768x16384 .fp8e4m3) (x1 : Vec F S16384x512 .fp8e4m3) (x2 : Vec F S768x1 .f32) (x3 : Vec F S1x512 .f32) (ct st : Vec F S768x128 .f32) (y : S768x512.Idx) : ∃ pc ∈ qPieces x0 x1 x2 x3 ct st, y ∈ pc.1.set :=
  View.cover_of_tiledL (qPieces x0 x1 x2 x3 ct st) S768x128.size (by sl_kernel_rfl) y
theorem kPieces_cover (x0 : Vec F S768x16384 .fp8e4m3) (x1 : Vec F S16384x512 .fp8e4m3) (x2 : Vec F S768x1 .f32) (x3 : Vec F S1x512 .f32) (ct st : Vec F S768x128 .f32) (y : S768x256.Idx) : ∃ pc ∈ kPieces x0 x1 x2 x3 ct st, y ∈ pc.1.set :=
  View.cover_of_tiledL (kPieces x0 x1 x2 x3 ct st) S768x128.size (by sl_kernel_rfl) y

theorem zeros2 : (![0, 0] : Fin 2 → Nat) = fun _ => 0 := by
  funext a; match a with | ⟨0, _⟩ => rfl | ⟨1, _⟩ => rfl

/-- One store at zero offsets over the whole shape covers it. -/
theorem whole_cover {s : Shape} {e : EltTy} {off : Fin s.rank → Nat} (h : off = fun _ => 0)
    (inb : ∀ x, off x + s.size x ≤ s.size x) (w : s.Idx → Elt F e) :
    ∀ y, ∃ p ∈ [(⟨Rect.unit (s := s) off s.size inb, w⟩ : View.Piece (Elt F) s e)], y ∈ p.1.set :=
  fun y => ⟨_, List.mem_singleton_self _, View.mem_set_unit_zero h inb y⟩

/-- A load of a whole memref at zero offsets reads what the memref holds. -/
theorem readAt_whole {s : Shape} {e : EltTy} {off : Fin s.rank → Nat} (a : Memref sig .tc .vmem s e) (ha : a.IsWhole)
    (h : off = fun _ => 0) (inb : ∀ x, off x + s.size x ≤ s.size x) (x : s.Idx → Elt F e) :
    View.readAt (Elt F) a.view (Rect.unit (s := s) off s.size inb).toLoadRect (ha.unread x) = x :=
  (View.readAt_eq_ld _ _ _).trans ((congrArg (fun z => View.ld z _) (ha.read_unread x)).trans (View.ld_unit_zero h inb x))

/-! ## What each run leaves, as those blocks -/

theorem qPieces_congr {x0 y0 : Vec F S768x16384 .fp8e4m3} {x1 y1 : Vec F S16384x512 .fp8e4m3} {x2 y2 : Vec F S768x1 .f32}
    {x3 y3 : Vec F S1x512 .f32} {ct ct' st st' : Vec F S768x128 .f32} (h0 : x0 = y0) (h1 : x1 = y1) (h2 : x2 = y2) (h3 : x3 = y3)
    (h4 : ct = ct') (h5 : st = st') : qPieces x0 x1 x2 x3 ct st = qPieces y0 y1 y2 y3 ct' st' := by
  subst h0 h1 h2 h3 h4 h5; rfl
theorem kPieces_congr {x0 y0 : Vec F S768x16384 .fp8e4m3} {x1 y1 : Vec F S16384x512 .fp8e4m3} {x2 y2 : Vec F S768x1 .f32}
    {x3 y3 : Vec F S1x512 .f32} {ct ct' st st' : Vec F S768x128 .f32} (h0 : x0 = y0) (h1 : x1 = y1) (h2 : x2 = y2) (h3 : x3 = y3)
    (h4 : ct = ct') (h5 : st = st') : kPieces x0 x1 x2 x3 ct st = kPieces y0 y1 y2 y3 ct' st' := by
  subst h0 h1 h2 h3 h4 h5; rfl
abbrev vPieces (x0 : Vec F S768x16384 .fp8e4m3) (x1 : Vec F S16384x512 .fp8e4m3) (x2 : Vec F S768x1 .f32) (x3 : Vec F S1x512 .f32) : List (View.Piece (Elt F) S768x256 .bf16) :=
  [⟨Rect.unit (s := S768x256) ![0, 0] S768x256.size inb_S768x256_S768x256_0_0, vBlock x0 x1 x2 x3⟩]
theorem vPieces_congr {x0 y0 : Vec F S768x16384 .fp8e4m3} {x1 y1 : Vec F S16384x512 .fp8e4m3} {x2 y2 : Vec F S768x1 .f32}
    {x3 y3 : Vec F S1x512 .f32} (h0 : x0 = y0) (h1 : x1 = y1) (h2 : x2 = y2) (h3 : x3 = y3) :
    vPieces x0 x1 x2 x3 = vPieces y0 y1 y2 y3 := by
  subst h0 h1 h2 h3; rfl
abbrev tabPiece (t : Vec F S768x128 .f32) : List (View.Piece (Elt F) S768x128 .f32) :=
  [⟨Rect.unit (s := S768x128) ![0, 0] S768x128.size inb_S768x128_S768x128_0_0, t⟩]

theorem first_cosPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.1 = tabPiece (cosTab x4 x5) := by
  unfold kernelRun0_A; dsimp only
  unfold kernelRun0_A.sl.HS0_1
  exact congrArg tabPiece (congrArg₂ cosTab (readAt_whole arg5 harg5 zeros2 inb_S768x1_S768x1_0_0 x4) (readAt_whole arg6 harg6 zeros2 inb_S1x128_S1x128_0_0 x5))
theorem first_sinPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.2.1 = tabPiece (sinTab x4 x5) := by
  unfold kernelRun0_A; dsimp only
  unfold kernelRun0_A.sl.HS1_1
  exact congrArg tabPiece (congrArg₂ sinTab (readAt_whole arg5 harg5 zeros2 inb_S768x1_S768x1_0_0 x4) (readAt_whole arg6 harg6 zeros2 inb_S1x128_S1x128_0_0 x5))
theorem first_qPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) :
    (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).1 = qPieces x0 x1 x2 x3 (cosTab x4 x5) (sinTab x4 x5) := by
  unfold kernelRun0_A; dsimp only
  unfold kernelRun0_A.sl.v13 kernelRun0_A.sl.v14 kernelRun0_A.sl.HS0_1 kernelRun0_A.sl.HS1_1
  exact qPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3)
    ((View.readCov_unit_zero _ zeros2 inb_S768x128_S768x128_0_0 _).trans (congrArg₂ cosTab (readAt_whole arg5 harg5 zeros2 inb_S768x1_S768x1_0_0 x4) (readAt_whole arg6 harg6 zeros2 inb_S1x128_S1x128_0_0 x5)))
    ((View.readCov_unit_zero _ zeros2 inb_S768x128_S768x128_0_0 _).trans (congrArg₂ sinTab (readAt_whole arg5 harg5 zeros2 inb_S768x1_S768x1_0_0 x4) (readAt_whole arg6 harg6 zeros2 inb_S1x128_S1x128_0_0 x5)))
theorem middle_qPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) :
    (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1).1 = qPieces x0 x1 x2 x3 xs0 xs1 := by
  unfold kernelRun0_B; dsimp only
  exact qPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3) (readAt_whole arg10 harg10 zeros2 inb_S768x128_S768x128_0_0 xs0) (readAt_whole arg11 harg11 zeros2 inb_S768x128_S768x128_0_0 xs1)
theorem last_kPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).1 = kPieces x0 x1 x2 x3 xs0 xs1 := by
  unfold kernelRun0_C; dsimp only
  exact kPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3) (readAt_whole arg10 harg10 zeros2 inb_S768x128_S768x128_0_0 xs0) (readAt_whole arg11 harg11 zeros2 inb_S768x128_S768x128_0_0 xs1)
theorem last_vPieces (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16) :
    (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).2.1 = vPieces x0 x1 x2 x3 := by
  unfold kernelRun0_C; dsimp only
  exact vPieces_congr (readAt_whole arg1 harg1 zeros2 inb_S768x16384_S768x16384_0_0 x0) (readAt_whole arg2 harg2 zeros2 inb_S16384x512_S16384x512_0_0 x1) (readAt_whole arg3 harg3 zeros2 inb_S768x1_S768x1_0_0 x2) (readAt_whole arg4 harg4 zeros2 inb_S1x512_S1x512_0_0 x3)
theorem first_cos (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg10.view.ty.Contents (Elt F)) :
    arg10.view.read (Elt F) (arg10.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.1) = cosTab x4 x5 := by
  exact (View.read_writes_eq_canon _ _ _ (by rw [first_cosPieces]; exact whole_cover zeros2 _ _)).trans (by rw [first_cosPieces]; exact View.canon_unit_zero zeros2 _ _)
theorem first_sin (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg11.view.ty.Contents (Elt F)) :
    arg11.view.read (Elt F) (arg11.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).2.2.2.2.1) = sinTab x4 x5 := by
  exact (View.read_writes_eq_canon _ _ _ (by rw [first_sinPieces]; exact whole_cover zeros2 _ _)).trans (by rw [first_sinPieces]; exact View.canon_unit_zero zeros2 _ _)
theorem first_q (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32)
    (f : arg7.view.ty.Contents (Elt F)) :
    arg7.view.read (Elt F) (arg7.view.writes (Elt F) f (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4 x5).1) = qTile x0 x1 x2 x3 (cosTab x4 x5) (sinTab x4 x5) := by
  exact (View.read_writes_eq_canon _ _ _ (by rw [first_qPieces]; exact qPieces_cover _ _ _ _ _ _)).trans (by rw [first_qPieces]; rfl)
theorem middle_q (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : cond0_1 i) (hc2 : ¬cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32)
    (f : arg7.view.ty.Contents (Elt F)) :
    arg7.view.read (Elt F) (arg7.view.writes (Elt F) f (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1).1) = qTile x0 x1 x2 x3 xs0 xs1 := by
  exact (View.read_writes_eq_canon _ _ _ (by rw [middle_qPieces]; exact qPieces_cover _ _ _ _ _ _)).trans (by rw [middle_qPieces]; rfl)
theorem last_k (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16)
    (f : arg8.view.ty.Contents (Elt F)) :
    arg8.view.read (Elt F) (arg8.view.writes (Elt F) f (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).1) = kBlock x0 x1 x2 x3 xs0 xs1 := by
  exact (View.read_writes_eq_canon _ _ _ (by rw [last_kPieces]; exact kPieces_cover _ _ _ _ _ _)).trans (by rw [last_kPieces]; rfl)
theorem last_v (c : Dev nD) (i : grid0.Coords) (arg1 : Memref sig .tc .vmem S768x16384 .fp8e4m3) (harg1 : arg1.IsWhole) (arg2 : Memref sig .tc .vmem S16384x512 .fp8e4m3) (harg2 : arg2.IsWhole) (arg3 : Memref sig .tc .vmem S768x1 .f32) (harg3 : arg3.IsWhole) (arg4 : Memref sig .tc .vmem S1x512 .f32) (harg4 : arg4.IsWhole) (arg5 : Memref sig .tc .vmem S768x1 .i32) (harg5 : arg5.IsWhole) (arg6 : Memref sig .tc .vmem S1x128 .f32) (harg6 : arg6.IsWhole) (arg7 : Memref sig .tc .vmem S768x512 .bf16) (harg7 : arg7.IsWhole) (arg8 : Memref sig .tc .vmem S768x256 .bf16) (harg8 : arg8.IsWhole) (arg9 : Memref sig .tc .vmem S768x256 .bf16) (harg9 : arg9.IsWhole) (arg10 : Memref sig .tc .vmem S768x128 .f32) (harg10 : arg10.IsWhole) (arg11 : Memref sig .tc .vmem S768x128 .f32) (harg11 : arg11.IsWhole) (hc0 : ¬cond0_0 i) (hc1 : ¬cond0_1 i) (hc2 : cond0_2 i)
    (x0 : Vec F S768x16384 .fp8e4m3) (x1 : Vec F S16384x512 .fp8e4m3) (x2 : Vec F S768x1 .f32) (x3 : Vec F S1x512 .f32) (x4 : Vec F S768x1 .i32) (x5 : Vec F S1x128 .f32) (xs0 : Vec F S768x128 .f32) (xs1 : Vec F S768x128 .f32) (xq : Vec F S768x512 .bf16)
    (f : arg9.view.ty.Contents (Elt F)) :
    arg9.view.read (Elt F) (arg9.view.writes (Elt F) f (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 x5 xs0 xs1 xq).2.1) = vBlock x0 x1 x2 x3 := by
  exact (View.read_writes_eq_canon _ _ _ (by rw [last_vPieces]; exact whole_cover zeros2 _ _)).trans (by rw [last_vPieces]; exact View.canon_unit_zero zeros2 _ _)

end Cert.KernelIdeal.Proj

end
-- ==== Proof.KernelFrame.lean ====
/- The run of the projection kernel over its nine points: what every staging buffer and both tables hold point by point, the
   body's obligation at each point, the run of the whole program and its frame (it ends, with the arguments unchanged and
   every semaphore counter at zero). -/
module

public import proofs.«01_k».proof.Proof.Contents
public import Idealize.ShloMosaic.Lib.Claim

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the last point the query window is never idle. -/
theorem liveAt0_6_at : ∀ t : Fin cfg0.N, t.val < 8 → cfg0.idle 6 (grid0.coords t) = false := by decide +kernel

/-! ## What the buffers hold, point by point -/

/-- The first point of the grid. -/
abbrev t0 : Fin cfg0.N := ⟨0, lt_of_lt_of_eq (by decide) (N_0 : cfg0.N = 9).symm⟩
/-- The point whose tile the query buffer holds after point `t`: `t`, but for the last point the one before. -/
def qPoint (t : Fin cfg0.N) : Fin cfg0.N := if t.val < 8 then t else ⟨7, lt_of_lt_of_eq (by decide) (N_0 : cfg0.N = 9).symm⟩

/-- The cosine table, which the first point stores and every point reads, -/
def cosAt (c : Dev nD) : Vec F S768x128 .f32 := cosTab (iblk m c 4 t0) (iblk m c 5 t0)
/-- and the signed sine table. -/
def sinAt (c : Dev nD) : Vec F S768x128 .f32 := sinTab (iblk m c 4 t0) (iblk m c 5 t0)
/-- The query tile of point `t`. -/
def qAt (c : Dev nD) (t : Fin cfg0.N) : Vec F S768x512 .bf16 :=
  qTile (iblk m c 0 t) (iblk m c 1 t) (iblk m c 2 t) (iblk m c 3 t) (cosAt m c) (sinAt m c)
/-- The keys, as point `t` would store them (only the last one does). -/
def kAt (c : Dev nD) (t : Fin cfg0.N) : Vec F S768x256 .bf16 :=
  kBlock (iblk m c 0 t) (iblk m c 1 t) (iblk m c 2 t) (iblk m c 3 t) (cosAt m c) (sinAt m c)
/-- The values, as point `t` would store them (only the last one does). -/
def vAt (c : Dev nD) (t : Fin cfg0.N) : Vec F S768x256 .bf16 :=
  vBlock (iblk m c 0 t) (iblk m c 1 t) (iblk m c 2 t) (iblk m c 3 t)

theorem qPoint_of_lt (t : Fin cfg0.N) (h : t.val < 8) : qPoint t = t := by unfold qPoint; rw [if_pos h]
theorem qPoint_last (t : Fin cfg0.N) (h : ¬ t.val < 8) : (qPoint t).val = 7 := by unfold qPoint; rw [if_neg h]

theorem eq_t0 (t : Fin cfg0.N) (h : t.val = 0) : t = t0 := Fin.ext h
theorem cosTab_first (c : Dev nD) (t : Fin cfg0.N) (h : t.val = 0) : cosTab (iblk m c 4 t) (iblk m c 5 t) = cosAt m c := by
  rw [eq_t0 t h]; rfl
theorem sinTab_first (c : Dev nD) (t : Fin cfg0.N) (h : t.val = 0) : sinTab (iblk m c 4 t) (iblk m c 5 t) = sinAt m c := by
  rw [eq_t0 t h]; rfl
theorem qTile_first (c : Dev nD) (t : Fin cfg0.N) (h : t.val = 0) :
    qTile (iblk m c 0 t) (iblk m c 1 t) (iblk m c 2 t) (iblk m c 3 t) (cosTab (iblk m c 4 t) (iblk m c 5 t))
      (sinTab (iblk m c 4 t) (iblk m c 5 t)) = qAt m c t := by
  rw [eq_t0 t h]; rfl

/-- The invariant before position `n`: before the first point the scratch at anything; afterwards the two tables. -/
def PhiS (c : Dev nD) : (n : ℕ) → n ≤ cfg0.N → sProp 𝕄
  | 0, _ => Pipeline.ΦA spec0 c
  | n + 1, hn => iprop(iprop(owns (c : Thread nD τ) scM0_0 fullShare (cosAt m c) ∗ owns (c : Thread nD τ) scM0_1 fullShare (sinAt m c)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (cosAt m c) ∗ owns (c : Thread nD τ) scM0_1 fullShare (sinAt m c)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (cosAt m c) ∗ owns (c : Thread nD τ) scM0_1 fullShare (sinAt m c)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c (qPoint t)
    | ⟨7, _⟩ => kAt m c t
    | ⟨8, _⟩ => vAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qAt m c (qPoint t) := by dsimp only [dats]
theorem after0_7 (c : Dev nD) (t : Fin cfg0.N) : (dats m 0 c).after 7 t = kAt m c t := by dsimp only [dats]
theorem after0_8 (c : Dev nD) (t : Fin cfg0.N) : (dats m 0 c).after 8 t = vAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At the last point the query buffer holds the tile the point before stored: it was not written back in between. -/
theorem before0_6_last (c : Dev nD) (t : Fin cfg0.N) (h : ¬ t.val < 8) (d) :
    (dats m 0 c).before 6 t d = qAt m c (qPoint t) := by
  have hN : t.val < 9 := lt_of_lt_of_eq t.isLt (show cfg0.N = 9 from N_0)
  have ht : t.val ≠ 0 := by omega
  have h7 : t.val - 1 = 7 := by omega
  have hp : t.val - 1 < cfg0.N := lt_of_le_of_lt (Nat.sub_le _ _) t.isLt
  rw [(dats m 0 c).before_of_pos 6 t ht ((cfg0.win 6).fetch_out rfl t), noFlush0_6_7 ⟨t.val - 1, hp⟩ h7, if_neg Bool.false_ne_true]
  unfold Dat.left
  rw [show cfg0.idle 6 (cfg0.grid.coords ⟨t.val - 1, hp⟩) = false from
    liveAt0_6_at ⟨t.val - 1, hp⟩ (by show t.val - 1 < 8; omega)]
  show (dats m 0 c).kept 6 ⟨t.val - 1, _⟩ d = _
  unfold Dat.kept
  rw [Pipeline.fill_of_clip_none (cfg := cfg0) 6 _ (fun _ => rfl) d ((dats m 0 c).after 6 _), Window.fill_cut, after0_6]
  congr 1
  exact Fin.ext (by rw [qPoint_last t h, qPoint_of_lt _ (by show t.val - 1 < 8; omega)]; exact h7)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
        rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [qPoint_of_lt _ h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          iintro ⟨H0, H1, H2, H3, H4, H5, ⟨%e6, H6⟩, H7, H8, ⟨%es0, HS0⟩, ⟨%es1, HS1⟩⟩
          isplitl [HS0 HS1 Hg]
          · isplitl [HS0 HS1]
            · isplitl [HS0]
              · unfold owns; iexists _; isplitr
                swap; · iexact HS0
                ipureintro; exact (first_cos c _ _ _ _ _ _ _ _ _ _ _ _ _ _ _ _ _ _ _ _ _ _ _ _ _ _ _ _ _ _ _ _ _).trans (cosTab_first m c t hz)
              unfold owns; iexists _; isplitr
              swap; · iexact HS1
              ipureintro; exact (first_sin c _ _ _ _ _ _ _ _ _ _ _ _ _ _ _ _ _ _ _ _ _ _ _ _ _ _ _ _ _ _ _ _ _).trans (sinTab_first m c t hz)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact (first_q c _ _ _ _ _ _ _ _ _ _ _ _ _ _ _ _ _ _ _ _ _ _ _ _ _ _ _ _ _ _ _ _ _).trans (qTile_first m c t hz)
          isplitl [H7]; · iexists _; iexact H7
          iexists _; iexact H8
        · exfalso; have hN : t.val < 9 := lt_of_lt_of_eq t.isLt (show cfg0.N = 9 from N_0); omega
    · exfalso; omega
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        by_cases hz : t.val = 0
        · exfalso; have hN : t.val < 9 := lt_of_lt_of_eq t.isLt (show cfg0.N = 9 from N_0); omega
        · rw [PhiS_castSucc m c t, PhiS_pos m c _ _ hz]
          rw [qPoint_of_lt _ h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          iintro ⟨H0, H1, H2, H3, H4, H5, ⟨%e6, H6⟩, H7, H8, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact middle_q c _ _ _ _ _ _ _ _ _ _ _ _ _ _ _ _ _ _ _ _ _ _ _ _ _ _ _ _ _ _ _ _ _ _ _
          isplitl [H7]; · iexists _; iexact H7
          iexists _; iexact H8
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [idleAt0_6_C t (fun h => h0 ((hcond0_0 t).mp h)) (fun h => h1 ((hcond0_1 t).mp h)) ((hcond0_2 t).mpr h2), flush0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        by_cases hz : t.val = 0
        · exfalso; have hN : t.val < 9 := lt_of_lt_of_eq t.isLt (show cfg0.N = 9 from N_0); omega
        · rw [PhiS_castSucc m c t, PhiS_pos m c _ _ hz]
          simp only [before0_6_last m c t h1]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [HS0]; · iexact HS0
          isplitl [HS1]; · iexact HS1
          iintro ⟨H0, H1, H2, H3, H4, H5, H6, ⟨%e7, H7⟩, ⟨%e8, H8⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact last_k c _ _ _ _ _ _ _ _ _ _ _ _ _ _ _ _ _ _ _ _ _ _ _ _ _ _ _ _ _ _ _ _ _ _ _ _
          unfold owns; iexists _; isplitr
          swap; · iexact H8
          ipureintro; exact last_v c _ _ _ _ _ _ _ _ _ _ _ _ _ _ _ _ _ _ _ _ _ _ _ _ _ _ _ _ _ _ _ _ _ _ _ _
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Proj

end
-- ==== Proof.KernelBlocks.lean ====
/- What one point of the kernel's grid computes, entry by entry, over the extended reals. -/
module

public import proofs.«01_k».proof.Proof.Contents
public import Idealize.ShloMosaic.Lib.Pointwise
public import Idealize.ShloMosaic.Lib.Pipeline.ValueKit

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen

variable (x0 : Vec Ideal S768x16384 .fp8e4m3) (x1 : Vec Ideal S16384x512 .fp8e4m3) (x2 : Vec Ideal S768x1 .f32) (x3 : Vec Ideal S1x512 .f32)
  (x4 : Vec Ideal S768x1 .i32) (x5 : Vec Ideal S1x128 .f32) (ct st : Vec Ideal S768x128 .f32)

/-- An entry of the scaled product of a tile. -/
theorem tile_apply (i : Fin 768) (j : Fin 512) :
    k0_pay4 x0 x1 x2 x3 (ix2 i j) = (∑ k : Fin 16384, x0 (ix2 i k) * x1 (ix2 k j)) * x2 (ix2 i 0) * x3 (ix2 0 j) := by
  pointwise [k0_pay4]

/-- An entry of the cosine table. -/
theorem cosTab_apply (i : Fin 768) (l : Fin 128) :
    cosTab x4 x5 (ix2 i l) = Ideal.cos (FloatOps.sitofp (F := Ideal) .f32 (x4 (ix2 i 0)) * x5 (ix2 0 l)) := by
  unfold cosTab
  pointwise [k0_pay2, k0_pay1]

theorem lane_lt (l : Fin 128) : IntOp.cmpi CmpIPredicate.slt (BitVec.ofNat 32 l.val) 64#32 = BitVec.ofBool (decide (l.val < 64)) := by
  revert l; decide

/-- An entry of the signed sine table. -/
theorem sinTab_apply (i : Fin 768) (l : Fin 128) :
    sinTab x4 x5 (ix2 i l) = if l.val < 64 then 0 - Ideal.sin (FloatOps.sitofp (F := Ideal) .f32 (x4 (ix2 i 0)) * x5 (ix2 0 l))
      else Ideal.sin (FloatOps.sitofp (F := Ideal) .f32 (x4 (ix2 i 0)) * x5 (ix2 0 l)) := by
  unfold sinTab
  pointwise [k0_pay3, k0_pay1]
  rw [lane_lt]
  by_cases h : l.val < 64
  · rw [if_pos h, decide_eq_true h]; rfl
  · rw [if_neg h, decide_eq_false h]; rfl

theorem head_congr (P : Vec Ideal S768x512 .f32) (ct st : Vec Ideal S768x128 .f32) (i : Fin 768) {a a' b b' : Fin 512} {l l' : Fin 128}
    (ha : a.val = a'.val) (hb : b.val = b'.val) (hl : l.val = l'.val) :
    (P (ix2 i a) * ct (ix2 i l) + P (ix2 i b) * st (ix2 i l) : EReal) = P (ix2 i a') * ct (ix2 i l') + P (ix2 i b') * st (ix2 i l') := by
  obtain rfl : a = a' := Fin.ext ha
  obtain rfl : b = b' := Fin.ext hb
  obtain rfl : l = l' := Fin.ext hl
  rfl

/-- An entry of the query tile: its head's column rotated. -/
theorem qTile_apply (i : Fin 768) (j : Fin 512) :
    qTile x0 x1 x2 x3 ct st (ix2 i j)
      = k0_pay4 x0 x1 x2 x3 (ix2 i j) * ct (ix2 i ⟨j.val % 128, Nat.mod_lt _ (by decide)⟩)
        + k0_pay4 x0 x1 x2 x3 (ix2 i ⟨j.val / 128 * 128 + (j.val % 128 + 64) % 128, by have := j.isLt; omega⟩)
          * st (ix2 i ⟨j.val % 128, Nat.mod_lt _ (by decide)⟩) := by
  unfold qTile qPieces
  canon_tiles x h
  all_goals
    idx_vars x
    obtain rfl : i = x0 := Fin.ext h0
    pointwise [k0_pay5, k0_pay6, k0_pay7, k0_pay8]
    exact head_congr _ _ _ _ (by try dsimp only
                                 omega) (by try dsimp only
                                            omega) (by try dsimp only
                                                       omega)

/-- An entry of the key block: its head's column rotated. -/
theorem kBlock_apply (i : Fin 768) (j : Fin 256) :
    kBlock x0 x1 x2 x3 ct st (ix2 i j)
      = k0_pay4 x0 x1 x2 x3 (ix2 i ⟨j.val, by have := j.isLt; omega⟩) * ct (ix2 i ⟨j.val % 128, Nat.mod_lt _ (by decide)⟩)
        + k0_pay4 x0 x1 x2 x3 (ix2 i ⟨j.val / 128 * 128 + (j.val % 128 + 64) % 128, by have := j.isLt; omega⟩)
          * st (ix2 i ⟨j.val % 128, Nat.mod_lt _ (by decide)⟩) := by
  unfold kBlock kPieces
  canon_tiles x h
  all_goals
    idx_vars x
    obtain rfl : i = x0 := Fin.ext h0
    pointwise [k0_pay9, k0_pay10]
    exact head_congr _ _ _ _ (by try dsimp only
                                 omega) (by try dsimp only
                                            omega) (by try dsimp only
                                                       omega)

/-- An entry of the value block. -/
theorem vBlock_apply (i : Fin 768) (j : Fin 256) :
    vBlock x0 x1 x2 x3 (ix2 i j) = k0_pay4 x0 x1 x2 x3 (ix2 i ⟨256 + j.val, by have := j.isLt; omega⟩) := by
  unfold vBlock
  pointwise [k0_pay11]

end Cert.KernelIdeal.Proj

end
-- ==== Proof.Rotary.lean ====
/- The projection and the rotary embedding as formulas over the extended reals: column `j` of the scaled product, the angle of
   a lane, and the rotated column, in the reference's form and in the form with a signed sine. -/
module

public import Idealize.ShloMosaic.Lib.Pointwise

@[expose] public section

set_option maxRecDepth 16384

noncomputable section

namespace Cert.Rotary

open Idealize.ShloMosaic Idealize.ShloMosaic.TcCoe Idealize.SL.Sem
open Idealize.ShloMosaic.Pipeline (Dat)

/-- The scaled product: row `i` of the codes against column `j` of the weights' codes, times the row's scale and the column's. -/
def proj (x : Vec Ideal ⟨2, ![768, 16384]⟩ .fp8e4m3) (w : Vec Ideal ⟨2, ![16384, 4608]⟩ .fp8e4m3) (xs : Vec Ideal ⟨2, ![768, 1]⟩ .f32)
    (ws : Vec Ideal ⟨1, ![4608]⟩ .f32) (i : Fin 768) (j : Fin 4608) : EReal :=
  (∑ k : Fin 16384, x (ix2 i k) * w (ix2 k j)) * xs (ix2 i 0) * ws (ix1 j)

/-- The angle of row `i` at frequency `l`. -/
def angle (pos : Vec Ideal ⟨2, ![1, 768]⟩ .i32) (f : Vec Ideal ⟨1, ![64]⟩ .f32) (i : Fin 768) (l : Fin 64) : EReal :=
  FloatOps.sitofp (F := Ideal) .f32 (pos (ix2 0 i)) * f (ix1 l)

/-- The frequency of column `j`. -/
def lane (j : Fin 4608) : Fin 64 := ⟨j.val % 64, Nat.mod_lt _ (by decide)⟩

/-- The column that column `j` is rotated with: the one at the same place in the other half of its head of 128 columns. -/
def other (j : Fin 4608) : Fin 4608 := ⟨j.val / 128 * 128 + (j.val % 128 + 64) % 128, by have := j.isLt; omega⟩

/-- Column `j` rotated: `t₁ cos − t₂ sin` in the first half of a head, `t₂ cos + t₁ sin` in the second. -/
def rotated (T : Fin 4608 → EReal) (A : Fin 64 → EReal) (j : Fin 4608) : EReal :=
  if j.val % 128 < 64 then T j * Ideal.cos (A (lane j)) - T (other j) * Ideal.sin (A (lane j))
  else T j * Ideal.cos (A (lane j)) + T (other j) * Ideal.sin (A (lane j))

/-- The queries: the first 4096 columns of the scaled product, rotated, -/
def queries (x : Vec Ideal ⟨2, ![768, 16384]⟩ .fp8e4m3) (w : Vec Ideal ⟨2, ![16384, 4608]⟩ .fp8e4m3) (xs : Vec Ideal ⟨2, ![768, 1]⟩ .f32)
    (ws : Vec Ideal ⟨1, ![4608]⟩ .f32) (pos : Vec Ideal ⟨2, ![1, 768]⟩ .i32) (f : Vec Ideal ⟨1, ![64]⟩ .f32) :
    Vec Ideal ⟨2, ![768, 4096]⟩ .bf16 :=
  fun y => rotated (proj x w xs ws (y 0)) (angle pos f (y 0)) ⟨(y 1).val, lt_trans (y 1).isLt (by decide)⟩
/-- the keys: the next 256, rotated, -/
def keys (x : Vec Ideal ⟨2, ![768, 16384]⟩ .fp8e4m3) (w : Vec Ideal ⟨2, ![16384, 4608]⟩ .fp8e4m3) (xs : Vec Ideal ⟨2, ![768, 1]⟩ .f32)
    (ws : Vec Ideal ⟨1, ![4608]⟩ .f32) (pos : Vec Ideal ⟨2, ![1, 768]⟩ .i32) (f : Vec Ideal ⟨1, ![64]⟩ .f32) :
    Vec Ideal ⟨2, ![768, 256]⟩ .bf16 :=
  fun y => rotated (proj x w xs ws (y 0)) (angle pos f (y 0)) ⟨4096 + (y 1).val, lt_of_lt_of_le (Nat.add_lt_add_left (y 1).isLt _) (by decide)⟩
/-- and the values: the last 256, as they are. -/
def values (x : Vec Ideal ⟨2, ![768, 16384]⟩ .fp8e4m3) (w : Vec Ideal ⟨2, ![16384, 4608]⟩ .fp8e4m3) (xs : Vec Ideal ⟨2, ![768, 1]⟩ .f32)
    (ws : Vec Ideal ⟨1, ![4608]⟩ .f32) : Vec Ideal ⟨2, ![768, 256]⟩ .bf16 :=
  fun y => proj x w xs ws (y 0) ⟨4352 + (y 1).val, lt_of_lt_of_le (Nat.add_lt_add_left (y 1).isLt _) (by decide)⟩

/-- The same with one sum and a sine whose sign depends on the half. -/
theorem rotated_signed (T : Fin 4608 → EReal) (A : Fin 64 → EReal) (j : Fin 4608) :
    T j * Ideal.cos (A (lane j)) + T (other j) * (if j.val % 128 < 64 then 0 - Ideal.sin (A (lane j)) else Ideal.sin (A (lane j)))
      = rotated T A j := by
  unfold rotated
  split
  · rw [zero_sub, mul_neg, sub_eq_add_neg]
  · rfl

end Cert.Rotary

end
-- ==== Proof.KernelArrays.lean ====
/- The arrays the kernel's run leaves, as the rotated columns of the scaled product of the arguments. -/
module

public import proofs.«01_k».proof.Proof.KernelFrame
public import proofs.«01_k».proof.Proof.KernelBlocks
public import proofs.«01_k».proof.Proof.Rotary
public import Idealize.ShloMosaic.Lib.Pipeline.ValueKit

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The buffers the host fills -/

/-- The inverse frequencies, `10000 ^ (−2 l / 128)` at `l`. -/
def invFreq : Vec Ideal S64 .f32 :=
  Host.powf (broadcastInDim S64 ![] bcast_S_S64 (constant (F := Ideal) S_ .f32 0x461C4000#32))
    (Host.divf (Host.negf (addf (broadcastInDim S64 ![] bcast_S_S64 (constant (F := Ideal) S_ .f32 0x00000000#32))
      (mulf (broadcastInDim S64 ![] bcast_S_S64 (constant (F := Ideal) S_ .f32 0x40000000#32)) (sitofp .f32 (iotaInDim S64 32 0)))))
      (broadcastInDim S64 ![] bcast_S_S64 (constant (F := Ideal) S_ .f32 0x43000000#32)))

theorem V_freq (c : Dev nD) : V m c main_v11
    = shapeCast S1x128 (concatenate S128 0 [⟨S64, invFreq⟩, ⟨S64, invFreq⟩] concatenates_S64_S64_S128_d0) shapeCasts_S128_S1x128 := by
  unfold_abbrev_sides
  after_results
  rfl
theorem V_scale (c : Dev nD) : V m c main_v12 = shapeCast S1x4608 (m ((c : Thread nD τ).loc main_arg3)) shapeCasts_S4608_S1x4608 := by
  unfold_abbrev_sides
  after_results
  rfl
theorem V_pos (c : Dev nD) : V m c main_v13 = shapeCast S768x1 (m ((c : Thread nD τ).loc main_arg4)) shapeCasts_S1x768_S768x1 := by
  unfold_abbrev_sides
  after_results
  rfl

/-- The frequencies' buffer holds the 64 frequencies twice. -/
theorem V_freq_apply (c : Dev nD) (l : Fin 128) : V m c main_v11 (ix2 0 l) = invFreq (ix1 ⟨l.val % 64, Nat.mod_lt _ (by decide)⟩) := by
  rw [V_freq]
  pointwise []
  split
  · exact congrArg invFreq (congrArg ix1 (Fin.ext (by dsimp only; omega)))
  · exact congrArg invFreq (congrArg ix1 (Fin.ext (by have := l.isLt; dsimp only; omega)))
theorem V_scale_apply (c : Dev nD) (j : Fin 4608) : V m c main_v12 (ix2 0 j) = m ((c : Thread nD τ).loc main_arg3) (ix1 j) := by
  rw [V_scale]
  set_option maxRecDepth 20000 in
  pointwise []
theorem V_pos_apply (c : Dev nD) (i : Fin 768) : V m c main_v13 (ix2 i 0) = m ((c : Thread nD τ).loc main_arg4) (ix2 0 i) := by
  rw [V_pos]
  pointwise []

/-! ## The windows' blocks, entry by entry -/

theorem index0 : ∀ t : Fin cfg0.N, win0_0.index t = ![0, 0] := by decide +kernel
theorem index1 : ∀ t : Fin cfg0.N, win0_1.index t = ![0, t.val] := by decide +kernel
theorem index2 : ∀ t : Fin cfg0.N, win0_2.index t = ![0, 0] := by decide +kernel
theorem index3 : ∀ t : Fin cfg0.N, win0_3.index t = ![0, t.val] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, (qPoint t).val] := by decide +kernel
theorem index7 : ∀ t : Fin cfg0.N, win0_7.index t = ![0, 0] := by decide +kernel
theorem index8 : ∀ t : Fin cfg0.N, win0_8.index t = ![0, 0] := by decide +kernel

/-- Column `j` of the tile of point `t`, among all columns. -/
def col (t : Fin cfg0.N) (j : Fin 512) : Fin 4608 :=
  ⟨t.val * 512 + j.val, by have := j.isLt; have := t.isLt; have : cfg0.N = 9 := N_0; omega⟩

theorem blk0_apply (c : Dev nD) (t : Fin cfg0.N) (i : Fin 768) (k : Fin 16384) :
    iblk m c 0 t (ix2 i k) = m ((c : Thread nD τ).loc main_arg0) (ix2 i k) := by
  blk_ext [iblk, index0, V_main_arg0]
theorem blk1_apply (c : Dev nD) (t : Fin cfg0.N) (k : Fin 16384) (j : Fin 512) :
    iblk m c 1 t (ix2 k j) = m ((c : Thread nD τ).loc main_arg1) (ix2 k (col t j)) := by
  unfold col
  blk_ext [iblk, index1, V_main_arg1]
theorem blk2_apply (c : Dev nD) (t : Fin cfg0.N) (i : Fin 768) :
    iblk m c 2 t (ix2 i 0) = m ((c : Thread nD τ).loc main_arg2) (ix2 i 0) := by
  blk_ext [iblk, index2, V_main_arg2]
theorem blk3_apply (c : Dev nD) (t : Fin cfg0.N) (j : Fin 512) :
    iblk m c 3 t (ix2 0 j) = m ((c : Thread nD τ).loc main_arg3) (ix1 (col t j)) := by
  rw [← V_scale_apply m c]
  unfold col
  blk_ext [iblk, index3]
theorem blk4_apply (c : Dev nD) (t : Fin cfg0.N) (i : Fin 768) :
    iblk m c 4 t (ix2 i 0) = m ((c : Thread nD τ).loc main_arg4) (ix2 0 i) := by
  rw [← V_pos_apply m c]
  blk_ext [iblk, index4]
theorem blk5_apply (c : Dev nD) (t : Fin cfg0.N) (l : Fin 128) :
    iblk m c 5 t (ix2 0 l) = invFreq (ix1 ⟨l.val % 64, Nat.mod_lt _ (by decide)⟩) := by
  rw [← V_freq_apply m c]
  blk_ext [iblk, index5]

/-! ## What each point computes, among all columns -/

open Cert.Rotary

/-- The scaled product of the arguments, row by column, -/
def prod (c : Dev nD) (i : Fin 768) (j : Fin 4608) : EReal :=
  proj (m ((c : Thread nD τ).loc main_arg0)) (m ((c : Thread nD τ).loc main_arg1)) (m ((c : Thread nD τ).loc main_arg2))
    (m ((c : Thread nD τ).loc main_arg3)) i j
/-- and the angle of a row at a frequency. -/
def ang (c : Dev nD) (i : Fin 768) (l : Fin 64) : EReal := angle (m ((c : Thread nD τ).loc main_arg4)) invFreq i l

theorem tileAt_apply (c : Dev nD) (t : Fin cfg0.N) (i : Fin 768) (j : Fin 512) :
    k0_pay4 (iblk m c 0 t) (iblk m c 1 t) (iblk m c 2 t) (iblk m c 3 t) (ix2 i j) = prod m c i (col t j) := by
  rw [tile_apply]
  unfold prod proj
  exact congrArg₂ (fun a b : EReal => a * b) (congrArg₂ (fun a b : EReal => a * b)
    (Finset.sum_congr rfl fun k _ => congrArg₂ (fun a b : EReal => a * b) (blk0_apply m c t i k) (blk1_apply m c t k j))
    (blk2_apply m c t i)) (blk3_apply m c t j)

theorem cosAt_apply (c : Dev nD) (i : Fin 768) (l : Fin 128) :
    cosAt m c (ix2 i l) = Ideal.cos (ang m c i ⟨l.val % 64, Nat.mod_lt _ (by decide)⟩) := by
  unfold cosAt ang angle
  rw [cosTab_apply, blk4_apply, blk5_apply]

theorem sinAt_apply (c : Dev nD) (i : Fin 768) (l : Fin 128) :
    sinAt m c (ix2 i l) = if l.val < 64 then 0 - Ideal.sin (ang m c i ⟨l.val % 64, Nat.mod_lt _ (by decide)⟩)
      else Ideal.sin (ang m c i ⟨l.val % 64, Nat.mod_lt _ (by decide)⟩) := by
  unfold sinAt ang angle
  rw [sinTab_apply, blk4_apply, blk5_apply]

/-- One sum of products of a tile's columns with the tables is the rotated column. -/
theorem rotated_tile (T : Fin 4608 → EReal) (A : Fin 64 → EReal) {a b J : Fin 4608} {l : Fin 128} {u : Fin 64}
    (ha : a.val = J.val) (hb : b.val = (other J).val) (hl : l.val = J.val % 128) (hu : u.val = J.val % 64) :
    T a * Ideal.cos (A u) + T b * (if l.val < 64 then 0 - Ideal.sin (A u) else Ideal.sin (A u)) = rotated T A J := by
  obtain rfl : a = J := Fin.ext ha
  obtain rfl : b = other a := Fin.ext hb
  obtain rfl : u = lane a := Fin.ext hu
  rw [hl]
  exact rotated_signed T A a

theorem qAt_apply (c : Dev nD) (t : Fin cfg0.N) (i : Fin 768) (j : Fin 512) :
    qAt m c t (ix2 i j) = rotated (prod m c i) (ang m c i) (col t j) := by
  have hj := j.isLt
  unfold qAt
  rw [qTile_apply, tileAt_apply, tileAt_apply, cosAt_apply, sinAt_apply]
  refine rotated_tile (prod m c i) (ang m c i) ?_ ?_ ?_ ?_ <;> (dsimp only [other, col] <;> omega)

/-- The last point, whose tile holds the keys and the values. -/
theorem kAt_apply (c : Dev nD) (t : Fin cfg0.N) (ht : t.val = 8) (i : Fin 768) (j : Fin 256) :
    kAt m c t (ix2 i j) = rotated (prod m c i) (ang m c i) ⟨4096 + j.val, by have := j.isLt; omega⟩ := by
  have hj := j.isLt
  unfold kAt
  rw [kBlock_apply, tileAt_apply, tileAt_apply, cosAt_apply, sinAt_apply]
  refine rotated_tile (prod m c i) (ang m c i) ?_ ?_ ?_ ?_ <;> (dsimp only [other, col] <;> omega)

theorem vAt_apply (c : Dev nD) (t : Fin cfg0.N) (ht : t.val = 8) (i : Fin 768) (j : Fin 256) :
    vAt m c t (ix2 i j) = prod m c i ⟨4352 + j.val, by have := j.isLt; omega⟩ := by
  unfold vAt
  rw [vBlock_apply, tileAt_apply]
  refine congrArg (prod m c i) (Fin.ext ?_)
  dsimp only [col]
  omega

/-! ## The arrays the run leaves -/

theorem qcol_lt (t : Fin cfg0.N) (j : Fin 512) : (qPoint t).val * 512 + j.val < 4096 := by
  have hj := j.isLt
  by_cases h : t.val < 8
  · rw [qPoint_of_lt t h]; omega
  · rw [qPoint_last t h]; omega
/-- Keys and values are written back after the last point only. -/
theorem flush7 : ∀ t : Fin cfg0.N, (cfg0.win 7).flush t = true → t.val = 8 := by decide +kernel
theorem flush8 : ∀ t : Fin cfg0.N, (cfg0.win 8).flush t = true → t.val = 8 := by decide +kernel

/-- The queries' array after the run, -/
theorem arr6 (c : Dev nD) : (dats m 0 c).arrAt 6 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) invFreq := by
  refine (dats m 0 c).arrAt_eq_of_covers 6 _ (by decide +kernel) fun t hf y => ?_
  blk_simp
  rw [after0_6]
  obtain ⟨i, j, rfl⟩ : ∃ (i : Fin 768) (j : Fin 512), y = ix2 i j := ⟨y 0, y 1, eq_ix2 y⟩
  have he : ((win0_6.blk t).view.emb (ix2 i j)) = ix2 i ⟨(qPoint t).val * 512 + j.val, qcol_lt t j⟩ := by
    blk_ext [index6]
  rw [he, qAt_apply]
  rfl
/-- the keys', -/
theorem arr7 (c : Dev nD) : (dats m 0 c).arrAt 7 cfg0.N = keys (m ((c : Thread nD τ).loc main_arg0)) (m ((c : Thread nD τ).loc main_arg1)) (m ((c : Thread nD τ).loc main_arg2)) (m ((c : Thread nD τ).loc main_arg3)) (m ((c : Thread nD τ).loc main_arg4)) invFreq := by
  refine (dats m 0 c).arrAt_eq_of_covers 7 _ (by decide +kernel) fun t hf y => ?_
  blk_simp
  rw [after0_7]
  obtain ⟨i, j, rfl⟩ : ∃ (i : Fin 768) (j : Fin 256), y = ix2 i j := ⟨y 0, y 1, eq_ix2 y⟩
  have he : ((win0_7.blk t).view.emb (ix2 i j)) = ix2 i j := by
    blk_ext [index7]
  rw [he, kAt_apply m c t (flush7 t hf)]
  rfl
/-- and the values'. -/
theorem arr8 (c : Dev nD) : (dats m 0 c).arrAt 8 cfg0.N = values (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨i, j, rfl⟩ : ∃ (i : Fin 768) (j : Fin 256), y = ix2 i j := ⟨y 0, y 1, eq_ix2 y⟩
  have he : ((win0_8.blk t).view.emb (ix2 i j)) = ix2 i j := by
    blk_ext [index8]
  rw [he, vAt_apply m c t (flush8 t hf)]
  rfl
/-! ## The run -/

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its three results named and the arguments unchanged. -/
theorem run : θ_run defs (onTc (τ := τ) (main (F := Ideal))) ⟨m, fun _ => 0, ρ⟩ fun r => ∀ c : Dev nD,
      r.2.mem ((c : Thread nD τ).loc main_v14_0) = queries (m ((c : Thread nD τ).loc main_arg0)) (m ((c : Thread nD τ).loc main_arg1)) (m ((c : Thread nD τ).loc main_arg2)) (m ((c : Thread nD τ).loc main_arg3)) (m ((c : Thread nD τ).loc main_arg4)) invFreq
      ∧ r.2.mem ((c : Thread nD τ).loc main_v14_1) = keys (m ((c : Thread nD τ).loc main_arg0)) (m ((c : Thread nD τ).loc main_arg1)) (m ((c : Thread nD τ).loc main_arg2)) (m ((c : Thread nD τ).loc main_arg3)) (m ((c : Thread nD τ).loc main_arg4)) invFreq
      ∧ r.2.mem ((c : Thread nD τ).loc main_v14_2) = values (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (arr6 m c), ((h c).1 7).trans (arr7 m c), ((h c).1 8).trans (arr8 m c),
      kept_main_arg0 m r h c, kept_main_arg1 m r h c, kept_main_arg2 m r h c, kept_main_arg3 m r h c, kept_main_arg4 m r h c⟩)
    (run_main m ρ)

end Cert.KernelIdeal.Proj

end
-- ==== Proof.ReferenceBlocks.lean ====
/- What the reference's body computes, entry by entry, over the extended reals. -/
module

public import proofs.«01_k».proof.Proof.Gen.ReferenceIdeal.Value
public import proofs.«01_k».proof.Proof.Rotary
public import Idealize.ShloMosaic.Lib.Pointwise
public import Idealize.ShloMosaic.Lib.Pipeline.ValueKit

@[expose] public section

set_option maxRecDepth 16384

noncomputable section

namespace Cert.ReferenceIdeal.Proj

open Idealize.ShloMosaic Idealize.ShloMosaic.TcCoe Idealize.SL.Sem
open Idealize.ShloMosaic.Pipeline (Dat)
open Cert.ReferenceIdeal Cert.ReferenceIdeal.Gen

variable (x0 : Vec Ideal S768x16384 .fp8e4m3) (x1 : Vec Ideal S16384x4608 .fp8e4m3) (x2 : Vec Ideal S768x1 .f32) (x3 : Vec Ideal S1x4608 .f32)
  (x4 : Vec Ideal S768x1 .i32) (x5 : Vec Ideal S1x64 .f32)

/-- The scaled product, as a function of row and column, -/
def prod (i : Fin 768) (j : Fin 4608) : EReal := k0_pay3 x0 x1 x2 x3 (ix2 i j)
/-- and the angle, of row and frequency. -/
def ang (i : Fin 768) (l : Fin 64) : EReal := FloatOps.sitofp (F := Ideal) .f32 (x4 (ix2 i 0)) * x5 (ix2 0 l)

/-- An entry of the scaled product. -/
theorem prod_apply (i : Fin 768) (j : Fin 4608) :
    prod x0 x1 x2 x3 i j = (∑ k : Fin 16384, x0 (ix2 i k) * x1 (ix2 k j)) * x2 (ix2 i 0) * x3 (ix2 0 j) := by
  unfold prod
  pointwise [k0_pay3]

theorem half_sub (T : Fin 768 → Fin 4608 → EReal) (A : Fin 768 → Fin 64 → EReal) {i : Fin 768} {a a' b b' : Fin 4608} {l l' : Fin 64}
    (ha : a.val = a'.val) (hb : b.val = b'.val) (hl : l.val = l'.val) :
    T i a * Ideal.cos (A i l) - T i b * Ideal.sin (A i l) = T i a' * Ideal.cos (A i l') - T i b' * Ideal.sin (A i l') := by
  rw [Fin.ext ha, Fin.ext hb, Fin.ext hl]

theorem half_add (T : Fin 768 → Fin 4608 → EReal) (A : Fin 768 → Fin 64 → EReal) {i : Fin 768} {a a' b b' : Fin 4608} {l l' : Fin 64}
    (ha : a.val = a'.val) (hb : b.val = b'.val) (hl : l.val = l'.val) :
    T i a * Ideal.cos (A i l) + T i b * Ideal.sin (A i l) = T i a' * Ideal.cos (A i l') + T i b' * Ideal.sin (A i l') := by
  rw [Fin.ext ha, Fin.ext hb, Fin.ext hl]

open Cert.Rotary in
/-- An entry of the queries. -/
theorem q_apply (i : Fin 768) (j : Fin 4096) :
    k0_pay9 x0 x1 x2 x3 x4 x5 (ix2 i j) = rotated (prod x0 x1 x2 x3 i) (ang x4 x5 i) ⟨j.val, by have := j.isLt; omega⟩ := by
  have hj := j.isLt
  pointwise [k0_pay9, k0_pay7, k0_pay8, k0_pay6]
  unfold rotated
  by_cases h : j.val % 128 < 64
  · refine (dif_pos h).trans (Eq.trans ?_ (if_pos h).symm)
    refine half_sub (prod x0 x1 x2 x3) (ang x4 x5) ?_ ?_ ?_ <;> (dsimp only [other, lane] <;> omega)
  · refine (dif_neg h).trans (Eq.trans ?_ (if_neg h).symm)
    refine half_add (prod x0 x1 x2 x3) (ang x4 x5) ?_ ?_ ?_ <;> (dsimp only [other, lane] <;> omega)

open Cert.Rotary in
/-- An entry of the keys. -/
theorem k_apply (i : Fin 768) (j : Fin 256) :
    k0_pay1 (k0_pay4 x0 x1 x2 x3) (k0_pay7 x4 x5) (k0_pay8 x4 x5) (k0_pay10 x0 x1 x2 x3) (ix2 i j)
      = rotated (prod x0 x1 x2 x3 i) (ang x4 x5 i) ⟨4096 + j.val, by have := j.isLt; omega⟩ := by
  have hj := j.isLt
  pointwise [k0_pay1, k0_pay4, k0_pay10, k0_pay7, k0_pay8, k0_pay6]
  unfold rotated
  by_cases h : j.val % 128 < 64
  · have h' : (4096 + j.val) % 128 < 64 := by omega
    refine (dif_pos h).trans (Eq.trans ?_ (if_pos h').symm)
    refine half_sub (prod x0 x1 x2 x3) (ang x4 x5) ?_ ?_ ?_ <;> (dsimp only [other, lane] <;> omega)
  · have h' : ¬ (4096 + j.val) % 128 < 64 := by omega
    refine (dif_neg h).trans (Eq.trans ?_ (if_neg h').symm)
    refine half_add (prod x0 x1 x2 x3) (ang x4 x5) ?_ ?_ ?_ <;> (dsimp only [other, lane] <;> omega)

/-- An entry of the values. -/
theorem v_apply (i : Fin 768) (j : Fin 256) :
    k0_pay2 (k0_pay5 x0 x1 x2 x3) (ix2 i j) = prod x0 x1 x2 x3 i ⟨4352 + j.val, by have := j.isLt; omega⟩ := by
  unfold prod
  pointwise [k0_pay2, k0_pay5]

end Cert.ReferenceIdeal.Proj

end
-- ==== Proof.ReferenceArrays.lean ====
/- The arrays the reference's run leaves, as the rotated columns of the scaled product of the arguments. -/
module

public import proofs.«01_k».proof.Proof.ReferenceBlocks
public import proofs.«01_k».proof.Proof.Rotary
public import proofs.«01_k».proof.Proof.Gen.ReferenceIdeal.Value
public import Idealize.ShloMosaic.Lib.Pipeline.ValueKit

@[expose] public section

set_option maxRecDepth 16384

noncomputable section

namespace Cert.ReferenceIdeal.Proj

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## The buffers the host fills -/

/-- The inverse frequencies, `10000 ^ (−2 l / 128)` at `l`. -/
def invFreq : Vec Ideal S64 .f32 :=
  Host.powf (broadcastInDim S64 ![] bcast_S_S64 (constant (F := Ideal) S_ .f32 0x461C4000#32))
    (Host.divf (Host.negf (addf (broadcastInDim S64 ![] bcast_S_S64 (constant (F := Ideal) S_ .f32 0x00000000#32))
      (mulf (broadcastInDim S64 ![] bcast_S_S64 (constant (F := Ideal) S_ .f32 0x40000000#32)) (sitofp .f32 (iotaInDim S64 32 0)))))
      (broadcastInDim S64 ![] bcast_S_S64 (constant (F := Ideal) S_ .f32 0x43000000#32)))

theorem V_freq (c : Dev nD) : V m c main_v12 = shapeCast S1x64 invFreq shapeCasts_S64_S1x64 := by
  unfold_abbrev_sides
  after_results
  rfl
theorem V_scale (c : Dev nD) : V m c main_v10 = shapeCast S1x4608 (m ((c : Thread nD τ).loc main_arg3)) shapeCasts_S4608_S1x4608 := by
  unfold_abbrev_sides
  after_results
  rfl
theorem V_pos (c : Dev nD) : V m c main_v11 = shapeCast S768x1 (m ((c : Thread nD τ).loc main_arg4)) shapeCasts_S1x768_S768x1 := by
  unfold_abbrev_sides
  after_results
  rfl

theorem V_freq_apply (c : Dev nD) (l : Fin 64) : V m c main_v12 (ix2 0 l) = invFreq (ix1 l) := by
  rw [V_freq]
  pointwise []
theorem V_scale_apply (c : Dev nD) (j : Fin 4608) : V m c main_v10 (ix2 0 j) = m ((c : Thread nD τ).loc main_arg3) (ix1 j) := by
  rw [V_scale]
  set_option maxRecDepth 20000 in
  pointwise []
theorem V_pos_apply (c : Dev nD) (i : Fin 768) : V m c main_v11 (ix2 i 0) = m ((c : Thread nD τ).loc main_arg4) (ix2 0 i) := by
  rw [V_pos]
  pointwise []

/-! ## The windows' blocks, entry by entry -/

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel

theorem blk0_apply (c : Dev nD) (t : Fin cfg0.N) (i : Fin 768) (k : Fin 16384) :
    iblk m c 0 t (ix2 i k) = m ((c : Thread nD τ).loc main_arg0) (ix2 i k) := by
  blk_ext [iblk, index0, V_main_arg0]
theorem blk1_apply (c : Dev nD) (t : Fin cfg0.N) (k : Fin 16384) (j : Fin 4608) :
    iblk m c 1 t (ix2 k j) = m ((c : Thread nD τ).loc main_arg1) (ix2 k j) := by
  blk_ext [iblk, index1, V_main_arg1]
theorem blk2_apply (c : Dev nD) (t : Fin cfg0.N) (i : Fin 768) :
    iblk m c 2 t (ix2 i 0) = m ((c : Thread nD τ).loc main_arg2) (ix2 i 0) := by
  blk_ext [iblk, index2, V_main_arg2]
theorem blk3_apply (c : Dev nD) (t : Fin cfg0.N) (j : Fin 4608) :
    iblk m c 3 t (ix2 0 j) = m ((c : Thread nD τ).loc main_arg3) (ix1 j) := by
  rw [← V_scale_apply m c]
  blk_ext [iblk, index3]
theorem blk4_apply (c : Dev nD) (t : Fin cfg0.N) (i : Fin 768) :
    iblk m c 4 t (ix2 i 0) = m ((c : Thread nD τ).loc main_arg4) (ix2 0 i) := by
  rw [← V_pos_apply m c]
  blk_ext [iblk, index4]
theorem blk5_apply (c : Dev nD) (t : Fin cfg0.N) (l : Fin 64) :
    iblk m c 5 t (ix2 0 l) = invFreq (ix1 l) := by
  rw [← V_freq_apply m c]
  blk_ext [iblk, index5]

/-! ## The product and the angle, of the arguments -/

open Cert.Rotary

theorem prod_args (c : Dev nD) (t : Fin cfg0.N) (i : Fin 768) :
    prod (iblk m c 0 t) (iblk m c 1 t) (iblk m c 2 t) (iblk m c 3 t) i = proj (m ((c : Thread nD τ).loc main_arg0)) (m ((c : Thread nD τ).loc main_arg1)) (m ((c : Thread nD τ).loc main_arg2)) (m ((c : Thread nD τ).loc main_arg3)) i := by
  funext j
  rw [prod_apply]
  unfold proj
  exact congrArg₂ (fun a b : EReal => a * b) (congrArg₂ (fun a b : EReal => a * b)
    (Finset.sum_congr rfl fun k _ => congrArg₂ (fun a b : EReal => a * b) (blk0_apply m c t i k) (blk1_apply m c t k j))
    (blk2_apply m c t i)) (blk3_apply m c t j)

theorem ang_args (c : Dev nD) (t : Fin cfg0.N) (i : Fin 768) :
    ang (iblk m c 4 t) (iblk m c 5 t) i = angle (m ((c : Thread nD τ).loc main_arg4)) invFreq i := by
  funext l
  unfold ang angle
  rw [blk4_apply, blk5_apply]

/-! ## The arrays the run leaves -/

/-- The queries' array after the run, -/
theorem arr6 (c : Dev nD) : (dats m 0 c).arrAt 6 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) invFreq := by
  refine (dats m 0 c).arrAt_eq_of_covers 6 _ (by decide +kernel) fun t hf y => ?_
  blk_simp
  rw [after0_6]
  unfold out0_6
  frame_out
  obtain ⟨i, j, rfl⟩ : ∃ (i : Fin 768) (j : Fin 4096), y = ix2 i j := ⟨y 0, y 1, eq_ix2 y⟩
  have he : ((win0_6.blk t).view.emb (ix2 i j)) = ix2 i j := by
    blk_ext [index6]
  rw [he]
  refine (q_apply _ _ _ _ _ _ i j).trans ?_
  rw [prod_args, ang_args]
  rfl
/-- the keys', -/
theorem arr7 (c : Dev nD) : (dats m 0 c).arrAt 7 cfg0.N = keys (m ((c : Thread nD τ).loc main_arg0)) (m ((c : Thread nD τ).loc main_arg1)) (m ((c : Thread nD τ).loc main_arg2)) (m ((c : Thread nD τ).loc main_arg3)) (m ((c : Thread nD τ).loc main_arg4)) invFreq := by
  refine (dats m 0 c).arrAt_eq_of_covers 7 _ (by decide +kernel) fun t hf y => ?_
  blk_simp
  rw [after0_7]
  unfold out0_7
  frame_out
  obtain ⟨i, j, rfl⟩ : ∃ (i : Fin 768) (j : Fin 256), y = ix2 i j := ⟨y 0, y 1, eq_ix2 y⟩
  have he : ((win0_7.blk t).view.emb (ix2 i j)) = ix2 i j := by
    blk_ext [index7]
  rw [he]
  refine (k_apply _ _ _ _ _ _ i j).trans ?_
  rw [prod_args, ang_args]
  rfl
/-- and the values'. -/
theorem arr8 (c : Dev nD) : (dats m 0 c).arrAt 8 cfg0.N = values (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold out0_8
  frame_out
  obtain ⟨i, j, rfl⟩ : ∃ (i : Fin 768) (j : Fin 256), y = ix2 i j := ⟨y 0, y 1, eq_ix2 y⟩
  have he : ((win0_8.blk t).view.emb (ix2 i j)) = ix2 i j := by
    blk_ext [index8]
  rw [he]
  refine (v_apply _ _ _ _ i j).trans ?_
  rw [prod_args]
  rfl

/-! ## The run -/

/-- The run, its three results named and the arguments unchanged. -/
theorem run : θ_run defs (onTc (τ := τ) (main (F := Ideal))) ⟨m, fun _ => 0, ρ⟩ fun r => ∀ c : Dev nD,
      r.2.mem ((c : Thread nD τ).loc main_v13_0) = queries (m ((c : Thread nD τ).loc main_arg0)) (m ((c : Thread nD τ).loc main_arg1)) (m ((c : Thread nD τ).loc main_arg2)) (m ((c : Thread nD τ).loc main_arg3)) (m ((c : Thread nD τ).loc main_arg4)) invFreq
      ∧ r.2.mem ((c : Thread nD τ).loc main_v13_1) = keys (m ((c : Thread nD τ).loc main_arg0)) (m ((c : Thread nD τ).loc main_arg1)) (m ((c : Thread nD τ).loc main_arg2)) (m ((c : Thread nD τ).loc main_arg3)) (m ((c : Thread nD τ).loc main_arg4)) invFreq
      ∧ r.2.mem ((c : Thread nD τ).loc main_v13_2) = values (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (arr6 m c), ((h c).1 7).trans (arr7 m c), ((h c).1 8).trans (arr8 m c),
      Cert.ReferenceIdeal.Value.kept_main_arg0 m r h c, Cert.ReferenceIdeal.Value.kept_main_arg1 m r h c, Cert.ReferenceIdeal.Value.kept_main_arg2 m r h c, Cert.ReferenceIdeal.Value.kept_main_arg3 m r h c, Cert.ReferenceIdeal.Value.kept_main_arg4 m r h c⟩)
    (run_main m ρ)

end Cert.ReferenceIdeal.Proj

end
-- ==== Proof.QuantWords.lean ====
/- The words of the quantiser: the exponent of a scaled maximum and the power of two it names, each as the kernel
   spells it and as the reference does, equal for every word. -/
module

public import Idealize.ShloMosaic.Lib.Pointwise

@[expose] public section

noncomputable section

namespace Cert.Quantise

open Idealize.ShloMosaic

/-- The exponent field of a float's word. -/
def field (w : BitVec 32) : BitVec 32 := IntOp.andi (IntOp.shrsi ArithUnit.vector w 23#32) 255#32

/-- The exponent a field names: `field − 126`, and 0 for the fields of zero (0) and of the infinities and NaNs (255). -/
def ofField (f : BitVec 32) : BitVec 32 :=
  Scalar.select (IntOp.ori (IntOp.cmpi CmpIPredicate.eq f 0#32) (IntOp.cmpi CmpIPredicate.eq f 255#32)) (0#32)
    (IntOp.subi f 126#32)

/-- The exponent of the scale of a row whose greatest magnitude is `a`: of `a / 448`, and 0 for a row of zeros. -/
def expo (a : Bits .f32) : BitVec 32 :=
  Scalar.select (FloatOps.cmpf CmpFPredicate.oeq a (FloatOps.ofBits FTy.f32 0#32)) (0#32)
    (ofField (field (BitOps.toBits (FloatOps.mulf a (FloatOps.ofBits FTy.f32 991054117#32)))))

/-- The word of `2 ^ e`. -/
def pow2 (e : BitVec 32) : BitVec 32 :=
  Scalar.select (IntOp.cmpi CmpIPredicate.sle (IntOp.addi e 127#32) 0#32) (0#32)
    (Scalar.select (IntOp.cmpi CmpIPredicate.sge (IntOp.addi e 127#32) 255#32) (2139095040#32)
      (IntOp.shli ArithUnit.vector (IntOp.addi e 127#32) 23#32))

/-- A float's word with a subnormal flushed to the zero of its sign. -/
def flush (w : BitVec 32) : BitVec 32 :=
  Scalar.select (IntOp.cmpi CmpIPredicate.eq (IntOp.andi w 2139095040#32) 0#32) (IntOp.andi w 2147483648#32) w

/-- The field, under the mask of the low eight bits, is the same for both right shifts. -/
theorem field_shrui (w : BitVec 32) : IntOp.andi (IntOp.shrui ArithUnit.vector w 23#32) 255#32 = field w := by
  show (w >>> (23 : Nat)) &&& 255#32 = (w.sshiftRight 23) &&& 255#32
  apply BitVec.eq_of_getLsbD_eq
  intro i hi
  simp only [BitVec.getLsbD_and, BitVec.getLsbD_ushiftRight, BitVec.getLsbD_sshiftRight]
  by_cases h : i < 8
  · have h32 : ¬ 32 ≤ i := by omega
    have : 23 + i < 32 := by omega
    simp [this, h32]
  · have : (255#32).getLsbD i = false := by
      have h255 : (255#32 : BitVec 32) = BitVec.setWidth 32 (255#8) := by decide
      rw [h255, BitVec.getLsbD_setWidth]
      simp [BitVec.getLsbD_of_ge _ _ (Nat.not_lt.mp h)]
    simp [this]

/-- The field as the word's middle bits, shifted down. -/
theorem field_eq (w : BitVec 32) : field w = (w &&& 2139095040#32) >>> (23 : Nat) := by
  rw [← field_shrui, BitVec.ushiftRight_and_distrib]
  rfl

/-- Flushing a subnormal leaves the field. -/
theorem field_flush (w : BitVec 32) : field (flush w) = field w := by
  unfold flush
  by_cases h : w &&& 2139095040#32 = 0#32
  · have hc : IntOp.cmpi CmpIPredicate.eq (IntOp.andi w 2139095040#32) 0#32 = 1#1 := by
      show BitVec.ofBool ((w &&& 2139095040#32) == 0#32) = 1#1
      rw [h]; rfl
    rw [hc]
    show field (w &&& 2147483648#32) = field w
    rw [field_eq, field_eq, h, BitVec.and_assoc]
    have : (2147483648#32 &&& 2139095040#32 : BitVec 32) = 0#32 := by decide
    rw [this, BitVec.and_zero]
  · have hc : IntOp.cmpi CmpIPredicate.eq (IntOp.andi w 2139095040#32) 0#32 = 0#1 := by
      show BitVec.ofBool ((w &&& 2139095040#32) == 0#32) = 0#1
      rw [beq_eq_false_iff_ne.mpr h]; rfl
    rw [hc]
    rfl

/-- The reference's exponent of the scale of a row whose greatest magnitude is `a`. -/
def expoRef (a : Bits .f32) : BitVec 32 :=
  Scalar.select (FloatOps.cmpf CmpFPredicate.oeq a (FloatOps.ofBits FTy.f32 0#32)) (0#32)
    (have f : BitVec 32 := IntOp.andi (IntOp.shrui ArithUnit.vector (flush (BitOps.toBits (FloatOps.mulf a (FloatOps.ofBits FTy.f32 991054117#32)))) 23#32) 255#32
     Scalar.select (IntOp.ori (IntOp.cmpi CmpIPredicate.eq f 255#32) (IntOp.cmpi CmpIPredicate.eq f 0#32)) (0#32)
      (IntOp.subi f 126#32))

/-- Both read the same exponent off every word. -/
theorem expoRef_eq (a : Bits .f32) : expoRef a = expo a := by
  unfold expoRef expo ofField
  rw [field_shrui, field_flush]
  refine congrArg (Scalar.select _ _) (congrArg (fun c => Scalar.select c _ _) ?_)
  exact BitVec.or_comm _ _

/-- A scale's exponent is an eight-bit field less 126. -/
theorem expo_range (a : Bits .f32) : ∃ f : Fin 256, expo a = BitVec.ofNat 32 f.val - 126#32 := by
  have sel : ∀ (c : BitVec 1) (x : BitVec 32), (∃ f : Fin 256, x = BitVec.ofNat 32 f.val - 126#32) →
      ∃ f : Fin 256, Scalar.select c (0#32) x = BitVec.ofNat 32 f.val - 126#32 := by
    intro c x hx
    unfold Scalar.select
    split
    · exact ⟨126, by decide⟩
    · exact hx
  refine sel _ _ (sel _ _ ?_)
  generalize BitOps.toBits (FloatOps.mulf a (FloatOps.ofBits FTy.f32 991054117#32)) = w
  have hw : (field w).toNat < 256 := by
    show ((w.sshiftRight 23) &&& 255#32).toNat < 256
    rw [BitVec.toNat_and]
    exact Nat.lt_of_le_of_lt Nat.and_le_right (by decide)
  refine ⟨⟨_, hw⟩, ?_⟩
  show field w - 126#32 = _
  simp

/-- The word of `1 · 2 ^ e`, as `ldexp` makes it: the exponent added to the field of 1. -/
def ldexpOne (e : BitVec 32) : BitVec 32 :=
  have b : BitVec 32 := IntOp.addi 127#32 (IntOp.minsi (IntOp.maxsi e 4294966784#32) 512#32)
  Scalar.select (IntOp.cmpi CmpIPredicate.sle b 0#32) (0#32)
    (Scalar.select (IntOp.cmpi CmpIPredicate.sge b 255#32) (IntOp.ori 0#32 2139095040#32)
      (IntOp.ori (IntOp.ori 0#32 (IntOp.shli ArithUnit.vector b 23#32)) (IntOp.andi 1065353216#32 8388607#32)))

theorem ldexpOne_field : ∀ f : Fin 256,
    ldexpOne (BitVec.ofNat 32 f.val - 126#32) = pow2 (BitVec.ofNat 32 f.val - 126#32)
    ∧ ldexpOne (IntOp.subi 0#32 (BitVec.ofNat 32 f.val - 126#32)) = pow2 (IntOp.subi 0#32 (BitVec.ofNat 32 f.val - 126#32)) := by
  decide +kernel

/-- Both make the same power of two of a scale's exponent, -/
theorem ldexpOne_expo (a : Bits .f32) : ldexpOne (expo a) = pow2 (expo a) := by
  obtain ⟨f, hf⟩ := expo_range a
  rw [hf]; exact (ldexpOne_field f).1
/-- and of its negation. -/
theorem ldexpOne_neg_expo (a : Bits .f32) : ldexpOne (IntOp.subi 0#32 (expo a)) = pow2 (IntOp.subi 0#32 (expo a)) := by
  obtain ⟨f, hf⟩ := expo_range a
  rw [hf]; exact (ldexpOne_field f).2

end Cert.Quantise

end
-- ==== Proof.QuantRow.lean ====
/- The quantised row: one row normalised by its mean of squares, its scale and its codes, in terms of the row, the gain
   and the mean. The mean is taken of a block of 32 rows at once, since the value of a sum of floats is a function of
   the whole array it reduces. -/
module

public import proofs.«01_k».proof.Proof.QuantWords
public import Idealize.ShloMosaic.PureOps.BitExact.Laws
public import Idealize.ShloMosaic.Lib.Pipeline.ValueKit

@[expose] public section

noncomputable section

namespace Cert.Quantise

open Idealize.ShloMosaic

/-- A block of 32 rows. -/
abbrev Block : Shape := ⟨2, ![32, 16384]⟩

/-- Row `32 b + i` of the array. -/
def row (b : Fin 24) (i : Fin 32) : Fin 768 := ⟨32 * b.val + i.val, by omega⟩

/-- The array's block `b`. -/
def block (x : Fin 768 → Fin 16384 → Bits .bf16) (b : Fin 24) : Vec Bits Block .bf16 :=
  fun y => x (row b (y 0)) (y 1)

/-- The mean of the squares of row `i` of a block. -/
def mean (y : Vec Bits Block .bf16) (i : Fin 32) : Bits .f32 :=
  FloatOps.divf
    (FloatOps.reduceAdd [1] (t := ⟨1, ![32]⟩) (by decide : Shape.Reduces Block [1] ⟨1, ![32]⟩)
      (mulf (extf FTy.f32 y (by decide)) (extf FTy.f32 y (by decide))) (ix1 i))
    (FloatOps.ofBits FTy.f32 1182793728#32)

/-- The normalised row. -/
def norm (x : Fin 16384 → Bits .bf16) (g : Fin 16384 → Bits .f32) (μ : Bits .f32) (k : Fin 16384) : Bits .f32 :=
  FloatOps.mulf
    (FloatOps.mulf (FloatOps.extf FTy.f32 (by decide) (x k)) (FloatOps.rsqrt (FloatOps.addf μ (FloatOps.ofBits FTy.f32 897988541#32))))
    (g k)

/-- Its greatest magnitude. -/
def amax (x : Fin 16384 → Bits .bf16) (g : Fin 16384 → Bits .f32) (μ : Bits .f32) : Bits .f32 :=
  (Finset.univ : Finset (Fin 16384)).fold FloatOps.maximumf (FloatOps.ofBits FTy.f32 4286578688#32)
    fun k => FloatOps.absf (norm x g μ k)

/-- Its scale, a power of two. -/
def scale (x : Fin 16384 → Bits .bf16) (g : Fin 16384 → Bits .f32) (μ : Bits .f32) : Bits .f32 :=
  FloatOps.ofBits FTy.f32 (pow2 (expo (amax x g μ)))

/-- Its codes: the row over its scale, clipped to ±448 and rounded. -/
def code (x : Fin 16384 → Bits .bf16) (g : Fin 16384 → Bits .f32) (μ : Bits .f32) (k : Fin 16384) : Bits .fp8e4m3 :=
  FloatOps.truncf FTy.fp8e4m3 (by decide)
    (FloatOps.minimumf (FloatOps.ofBits FTy.f32 1138753536#32)
      (FloatOps.maximumf (FloatOps.ofBits FTy.f32 3286237184#32)
        (FloatOps.mulf (norm x g μ k) (FloatOps.ofBits FTy.f32 (pow2 (IntOp.subi 0#32 (expo (amax x g μ))))))))

/-- Row `r`'s mean of squares, taken in its block. -/
def rowMean (x : Fin 768 → Fin 16384 → Bits .bf16) (r : Fin 768) : Bits .f32 :=
  mean (block x ⟨r.val / 32, by omega⟩) ⟨r.val % 32, by omega⟩

theorem rowMean_row (x : Fin 768 → Fin 16384 → Bits .bf16) (b : Fin 24) (i : Fin 32) : rowMean x (row b i) = mean (block x b) i := by
  have hb : (⟨(row b i).val / 32, by omega⟩ : Fin 24) = b := Fin.ext (by show (32 * b.val + i.val) / 32 = b.val; omega)
  have hi : (⟨(row b i).val % 32, by omega⟩ : Fin 32) = i := Fin.ext (by show (32 * b.val + i.val) % 32 = i.val; omega)
  unfold rowMean
  rw [hb, hi]

/-- Every row lies in a block. -/
theorem exists_row (r : Fin 768) : ∃ (b : Fin 24) (i : Fin 32), r = row b i :=
  ⟨⟨r.val / 32, by omega⟩, ⟨r.val % 32, by omega⟩, Fin.ext (by show r.val = 32 * (r.val / 32) + r.val % 32; omega)⟩

/-- The array of the codes, -/
def codes (x : Fin 768 → Fin 16384 → Bits .bf16) (g : Fin 16384 → Bits .f32) : Vec Bits ⟨2, ![768, 16384]⟩ .fp8e4m3 :=
  fun y => code (x (y 0)) g (rowMean x (y 0)) (y 1)
/-- and the column of the scales. -/
def scales (x : Fin 768 → Fin 16384 → Bits .bf16) (g : Fin 16384 → Bits .f32) : Vec Bits ⟨2, ![768, 1]⟩ .f32 :=
  fun y => scale (x (y 0)) g (rowMean x (y 0))

end Cert.Quantise

end
-- ==== Proof.QuantBlocks.lean ====
/- What the kernel's body leaves in its two blocks, entry by entry: the codes and the scales of the block's rows. -/
module

public import proofs.«01_k».proof.Proof.QuantRow
public import proofs.«01_k».proof.Proof.Gen.Quant.Frame

@[expose] public section

set_option maxRecDepth 16384

noncomputable section

namespace Cert.Quant.Rows

open Idealize.ShloMosaic Idealize.ShloMosaic.TcCoe Idealize.SL.Sem
open Cert.Quant Cert.Quant.Gen
open Cert.Quantise

variable (x : Vec Bits S32x16384 .bf16) (g : Vec Bits S1x16384 .f32)

/-- Row `i` of the block, normalised. -/
theorem norm_apply (i : Fin 32) (k : Fin 16384) :
    k0_pay3 x g (ix2 i k) = norm (fun k => x (ix2 i k)) (fun k => g (ix2 0 k)) (mean x i) k := by
  pointwise [k0_pay3]
  rfl

/-- The exponent of its scale. -/
theorem expo_apply (i : Fin 32) :
    k0_pay4 x g (ix2 i 0) = expo (amax (fun k => x (ix2 i k)) (fun k => g (ix2 0 k)) (mean x i)) := by
  have hmax : (Finset.univ : Finset (Fin 16384)).fold FloatOps.maximumf (FloatOps.ofBits FTy.f32 4286578688#32)
      (fun k => FloatOps.absf (k0_pay3 x g (ix2 i k))) = amax (fun k => x (ix2 i k)) (fun k => g (ix2 0 k)) (mean x i) :=
    Finset.fold_congr fun k _ => congrArg FloatOps.absf (norm_apply x g i k)
  pointwise [k0_pay4]
  rw [hmax]
  rfl

/-- The scale of row `i`, -/
theorem scale_apply (i : Fin 32) :
    k0_pay1 (F := Bits) (k0_pay4 x g) k0_pay5 (ix2 i 0)
      = scale (fun k => x (ix2 i k)) (fun k => g (ix2 0 k)) (mean x i) := by
  pointwise [k0_pay1, k0_pay5]
  rw [expo_apply]
  rfl
/-- and its codes. -/
theorem code_apply (i : Fin 32) (k : Fin 16384) :
    k0_pay2 (F := Bits) (k0_pay3 x g) (k0_pay4 x g) (ix2 i k)
      = code (fun k => x (ix2 i k)) (fun k => g (ix2 0 k)) (mean x i) k := by
  pointwise [k0_pay2]
  rw [expo_apply, norm_apply]
  rfl

end Cert.Quant.Rows

end
-- ==== Proof.QuantArrays.lean ====
/- The arrays the quantising kernel's run leaves: the codes and the scales of the argument's rows. -/
module

public import proofs.«01_k».proof.Proof.QuantBlocks

@[expose] public section

set_option maxRecDepth 16384

noncomputable section

namespace Cert.Quant.Rows

open Idealize.ShloMosaic Idealize.ShloMosaic.TcCoe Idealize.SL.Sem
open Idealize.ShloMosaic.Pipeline (Dat)
open Cert.Quant Cert.Quant.Gen
open Cert.Quantise

variable (m : (ℓ : Loc nD τ sig) → Buf (Elt Bits) ℓ) (ρ : Dev nD → PrngReg)

/-- The rows of the first argument, -/
def rows (c : Dev nD) : Fin 768 → Fin 16384 → Bits .bf16 := fun r k => m ((c : Thread nD τ).loc main_arg0) (ix3 0 r k)
/-- and the gain, the second. -/
def gain (c : Dev nD) : Fin 16384 → Bits .f32 := fun k => m ((c : Thread nD τ).loc main_arg1) (ix1 k)

/-! ## The buffers the host fills -/

theorem V_rows (c : Dev nD) : V m c main_v0 = shapeCast S768x16384 (m ((c : Thread nD τ).loc main_arg0)) shapeCasts_S1x768x16384_S768x16384 := by
  unfold_abbrev_sides
  after_results
  rfl
theorem V_gain (c : Dev nD) : V m c main_v1 = shapeCast S1x16384 (m ((c : Thread nD τ).loc main_arg1)) shapeCasts_S16384_S1x16384 := by
  unfold_abbrev_sides
  after_results
  rfl

theorem V_rows_apply (c : Dev nD) (r : Fin 768) (k : Fin 16384) : V m c main_v0 (ix2 r k) = rows m c r k := by
  rw [V_rows]
  refine (shapeCast_dropUnit_apply ![768, 16384] _ _ (ix2 r k)).trans ?_
  exact congrArg (m ((c : Thread nD τ).loc main_arg0)) (eq_ix3 _)
theorem V_gain_apply (c : Dev nD) (k : Fin 16384) : V m c main_v1 (ix2 0 k) = gain m c k := by
  rw [V_gain]
  refine (shapeCast_addUnit_apply ![16384] _ _ (ix2 0 k)).trans ?_
  exact congrArg (m ((c : Thread nD τ).loc main_arg1)) (eq_ix1 _)

/-! ## The windows' blocks, entry by entry -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel

/-- Grid point `t` as the number of its block of rows. -/
def blockOf (t : Fin cfg0.N) : Fin 24 := ⟨t.val, t.isLt⟩

theorem blk0_apply (c : Dev nD) (t : Fin cfg0.N) (i : Fin 32) (k : Fin 16384) :
    iblk m c 0 t (ix2 i k) = rows m c (row (blockOf t) i) k := by
  rw [← V_rows_apply m c]
  unfold row blockOf
  blk_ext [iblk, index0]
theorem blk1_apply (c : Dev nD) (t : Fin cfg0.N) (k : Fin 16384) : iblk m c 1 t (ix2 0 k) = gain m c k := by
  rw [← V_gain_apply m c]
  blk_ext [iblk, index1]

theorem blk0_rows (c : Dev nD) (t : Fin cfg0.N) (i : Fin 32) :
    (fun k => iblk m c 0 t (ix2 i k)) = rows m c (row (blockOf t) i) := funext fun k => blk0_apply m c t i k
theorem blk0_block (c : Dev nD) (t : Fin cfg0.N) : iblk m c 0 t = block (rows m c) (blockOf t) := by
  funext y
  obtain ⟨i, k, rfl⟩ : ∃ (i : Fin 32) (k : Fin 16384), y = ix2 i k := ⟨y 0, y 1, eq_ix2 y⟩
  exact blk0_apply m c t i k
theorem blk1_gain (c : Dev nD) (t : Fin cfg0.N) : (fun k => iblk m c 1 t (ix2 0 k)) = gain m c :=
  funext fun k => blk1_apply m c t k
theorem blk0_mean (c : Dev nD) (t : Fin cfg0.N) (i : Fin 32) :
    mean (iblk m c 0 t) i = rowMean (rows m c) (row (blockOf t) i) := by
  rw [rowMean_row]
  exact congrArg (fun y => mean y i) (blk0_block m c t)

/-! ## The arrays the run leaves -/

/-- The codes' array after the run, -/
theorem arr2 (c : Dev nD) : (dats m 0 c).arrAt 2 cfg0.N = codes (rows m c) (gain m c) := by
  refine (dats m 0 c).arrAt_eq_of_covers 2 _ (by decide +kernel) fun t hf y => ?_
  blk_simp
  rw [after0_2]
  unfold out0_2 k0_pay6
  frame_out
  obtain ⟨i, k, rfl⟩ : ∃ (i : Fin 32) (k : Fin 16384), y = ix2 i k := ⟨y 0, y 1, eq_ix2 y⟩
  have he : ((win0_2.blk t).view.emb (ix2 i k)) = ix2 (row (blockOf t) i) k := by
    unfold row blockOf
    blk_ext [index2]
  rw [he]
  refine (code_apply _ _ i k).trans ?_
  rw [blk0_rows, blk1_gain, blk0_mean]
  rfl
/-- and the scales'. -/
theorem arr3 (c : Dev nD) : (dats m 0 c).arrAt 3 cfg0.N = scales (rows m c) (gain m c) := by
  refine (dats m 0 c).arrAt_eq_of_covers 3 _ (by decide +kernel) fun t hf y => ?_
  blk_simp
  rw [after0_3]
  unfold out0_3 k0_pay6
  frame_out
  obtain ⟨i, k, rfl⟩ : ∃ (i : Fin 32) (k : Fin 1), y = ix2 i k := ⟨y 0, y 1, eq_ix2 y⟩
  obtain rfl : k = 0 := Subsingleton.elim _ _
  have he : ((win0_3.blk t).view.emb (ix2 i 0)) = ix2 (row (blockOf t) i) 0 := by
    unfold row blockOf
    blk_ext [index3]
  rw [he]
  refine (scale_apply _ _ i).trans ?_
  rw [blk0_rows, blk1_gain, blk0_mean]
  rfl

/-! ## The run -/

/-- After the frame run the arguments are as launched: no window stages them. -/
theorem kept_main_arg0 (r : PUnit × MemSt nD τ sig (Elt Bits)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt Bits)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run, its two results named and the arguments unchanged. -/
theorem run : θ_run defs (onTc (τ := τ) (main (F := Bits))) ⟨m, fun _ => 0, ρ⟩ fun r => ∀ c : Dev nD,
      r.2.mem ((c : Thread nD τ).loc main_v2_0) = codes (rows m c) (gain m c)
      ∧ r.2.mem ((c : Thread nD τ).loc main_v2_1) = scales (rows m c) (gain m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (arr2 m c), ((h c).1 3).trans (arr3 m c),
      kept_main_arg0 m r h c, kept_main_arg1 m r h c⟩)
    (run_main m ρ)

end Cert.Quant.Rows

end
-- ==== Proof.QuantReferenceBlocks.lean ====
/- What the reference's body leaves in its two arrays, entry by entry: the codes and the scales of the rows. -/
module

public import proofs.«01_k».proof.Proof.QuantRow
public import proofs.«01_k».proof.Proof.Gen.QuantReference.Frame

@[expose] public section

set_option maxRecDepth 16384

noncomputable section

namespace Cert.QuantReference.Rows

open Idealize.ShloMosaic Idealize.ShloMosaic.TcCoe Idealize.SL.Sem
open Cert.QuantReference Cert.QuantReference.Gen
open Cert.Quantise

variable (x : Vec Bits S768x16384 .bf16) (g : Vec Bits S1x16384 .f32)

/-! ## The means -/

theorem slices (b : Fin 24) : Shape.Slices S768x16384 ![32 * b.val, 0] S32x16384 := by
  revert b; decide +kernel

/-- The column of the means of rows `32 b, …, 32 b + 31`. -/
def means (b : Fin 24) : FVec Bits S32x1 .f32 :=
  divf (shapeCast S32x1 (multiReduction .add [1] S32 (extractStridedSlice S32x16384 ![32 * b.val, 0] (k0_pay47 x g) (slices b)) 0x00000000#32 reduces_S32x16384_S32 (.inl rfl) rfl) shapeCasts_S32_S32x1)
    (broadcast S32x1 (Scalar.ofBits .f32 0x46800000#32))

theorem means_concatenate (f : Fin 24 → FVec Bits S32x1 .f32) :
    Shape.Concatenates ((List.ofFn fun b : Fin 24 => (⟨S32x1, f b⟩ : (s : Shape) × (s.Idx → Bits .f32))).map (·.1)) S768x1 0 :=
  (by decide +kernel : Shape.Concatenates (List.replicate 24 S32x1) S768x1 0)

theorem means_eq : k0_pay48 x g
    = concatenate S768x1 0 (List.ofFn fun b : Fin 24 => (⟨S32x1, means x g b⟩ : (s : Shape) × (s.Idx → Bits .f32))) (means_concatenate _) := rfl

/-- The array's entries by row and column. -/
abbrev entries : Fin 768 → Fin 16384 → Bits .bf16 := fun r k => x (ix2 r k)

theorem square_apply (r : Fin 768) (k : Fin 16384) :
    k0_pay47 x g (ix2 r k) = FloatOps.mulf (FloatOps.extf FTy.f32 bitsLt_bf16_f32 (x (ix2 r k))) (FloatOps.extf FTy.f32 bitsLt_bf16_f32 (x (ix2 r k))) := by
  unfold k0_pay47
  pointwise [k0_pay4, k0_pay3]

theorem means_apply (b : Fin 24) (i : Fin 32) : means x g b (ix2 i 0) = mean (block (entries x) b) i := by
  have hsq : extractStridedSlice S32x16384 ![32 * b.val, 0] (k0_pay47 x g) (slices b)
      = mulf (extf FTy.f32 (block (entries x) b) (by decide)) (extf FTy.f32 (block (entries x) b) (by decide)) := by
    funext y
    refine Eq.trans ?_ (square_apply x g (row b (y 0)) (y 1))
    refine congrArg (k0_pay47 x g) ?_
    refine (eq_ix2 _).trans ?_
    congr 1 <;> exact Fin.ext (by simp [row])
  unfold means
  rw [hsq]
  pointwise []
  rfl

/-- The mean of row `32 b + i` of the array. -/
theorem mean_apply (b : Fin 24) (i : Fin 32) : k0_pay48 x g (ix2 (row b i) 0) = mean (block (entries x) b) i := by
  rw [means_eq]
  refine (concatenate_ofFn_apply 0 (fun b => means x g b) (means_concatenate _) rfl 32 rfl (ix2 (row b i) 0) b ?_ (ix2 i 0) ?_ ?_).trans
    (means_apply x g b i)
  · show (32 * b.val + i.val) / 32 = b.val
    omega
  · show i.val = (32 * b.val + i.val) % 32
    omega
  · intro d hd
    match d with
    | ⟨0, _⟩ => exact absurd rfl hd
    | ⟨1, _⟩ => rfl

/-! ## The rows -/

theorem norm_apply (r : Fin 768) (k : Fin 16384) :
    k0_pay23 (k0_pay45 x g) (k0_pay46 x g) (k0_pay48 x g) (Scalar.ofBits .f32 0x358637BD#32) (ix2 r k)
      = norm (fun k => x (ix2 r k)) (fun k => g (ix2 0 k)) (k0_pay48 x g (ix2 r 0)) k := by
  unfold k0_pay45 k0_pay46
  pointwise [k0_pay23, k0_pay2, k0_pay3]
  rfl

theorem amax_apply (r : Fin 768) :
    k0_pay49 x g (ix2 r 0) = amax (fun k => x (ix2 r k)) (fun k => g (ix2 0 k)) (k0_pay48 x g (ix2 r 0)) := by
  unfold k0_pay49
  pointwise [k0_pay24]
  exact Finset.fold_congr fun k _ => congrArg FloatOps.absf (norm_apply x g r k)

theorem expo_apply (r : Fin 768) :
    k0_pay51 x g (ix2 r 0) = expo (amax (fun k => x (ix2 r k)) (fun k => g (ix2 0 k)) (k0_pay48 x g (ix2 r 0))) := by
  have h : k0_pay24 (k0_pay45 x g) (k0_pay46 x g) (k0_pay48 x g) (FloatOps.ofBits FTy.f32 0x358637BD#32) (ix2 r 0)
      = k0_pay49 x g (ix2 r 0) := rfl
  rw [← expoRef_eq, ← amax_apply]
  unfold k0_pay51 k0_pay50
  pointwise [k0_pay26, k0_pay25]
  rw [h]
  generalize k0_pay49 x g (ix2 r 0) = a
  rfl

/-! The words of 1 that `ldexp` reads. -/

theorem one_word (r : Fin 768) : k0_pay28 (F := Bits) (ix2 r 0) = 1065353216#32 := by
  pointwise [k0_pay28, k0_pay27]
  decide +kernel
theorem one_sign (r : Fin 768) : k0_pay29 (F := Bits) (ix2 r 0) = 0#32 := by
  pointwise [k0_pay29]
  rw [one_word]
  decide +kernel
theorem one_field (r : Fin 768) : k0_pay30 (F := Bits) (ix2 r 0) = 127#32 := by
  pointwise [k0_pay30]
  rw [one_word]
  decide +kernel
theorem one_normal (r : Fin 768) : k0_pay31 (F := Bits) (ix2 r 0) = 0#1 := by
  pointwise [k0_pay31]
  rw [one_field]
  decide +kernel
theorem one_finite (r : Fin 768) : k0_pay32 (F := Bits) (ix2 r 0) = 0#1 := by
  pointwise [k0_pay32]
  rw [one_field]
  decide +kernel

/-- The scale of row `r`. -/
theorem scale_apply (r : Fin 768) :
    k0_pay36 (F := Bits) (k0_pay28 (F := Bits)) (k0_pay29 (F := Bits)) (k0_pay31 (F := Bits)) (k0_pay32 (F := Bits))
        (k0_pay34 (k0_pay49 x g) (k0_pay50 x g) (Scalar.ofBits .f32 0x00000000#32))
        (k0_pay35 (k0_pay49 x g) (k0_pay50 x g) (Scalar.ofBits .f32 0x00000000#32)) (ix2 r 0)
      = scale (fun k => x (ix2 r k)) (fun k => g (ix2 0 k)) (k0_pay48 x g (ix2 r 0)) := by
  have he : k0_pay26 (k0_pay49 x g) (k0_pay50 x g) (FloatOps.ofBits FTy.f32 0x00000000#32) (ix2 r 0) = _ := expo_apply x g r
  unfold scale
  rw [← ldexpOne_expo]
  pointwise [k0_pay36, k0_pay35, k0_pay34, k0_pay33]
  rw [he, one_word, one_sign, one_field, one_normal, one_finite]
  generalize expo _ = e
  rfl

theorem one_word' (r : Fin 768) : k0_pay37 (k0_pay52 x g) (ix2 r 0) = 1065353216#32 := one_word r
theorem one_sign' (r : Fin 768) : k0_pay38 (k0_pay52 x g) (ix2 r 0) = 0#32 := one_sign r
theorem one_field' (r : Fin 768) : k0_pay39 (k0_pay52 x g) (ix2 r 0) = 127#32 := one_field r
theorem one_normal' (r : Fin 768) : k0_pay40 (k0_pay52 x g) (ix2 r 0) = 0#1 := one_normal r
theorem one_finite' (r : Fin 768) : k0_pay41 (k0_pay52 x g) (ix2 r 0) = 0#1 := one_finite r

/-- The codes of row `r`. -/
theorem code_apply (r : Fin 768) (k : Fin 16384) :
    k0_pay1 (k0_pay23 (k0_pay45 x g) (k0_pay46 x g) (k0_pay48 x g) (Scalar.ofBits .f32 0x358637BD#32))
        (k0_pay37 (k0_pay52 x g)) (k0_pay38 (k0_pay52 x g)) (k0_pay40 (k0_pay52 x g)) (k0_pay41 (k0_pay52 x g))
        (k0_pay43 (k0_pay51 x g) (k0_pay52 x g)) (k0_pay44 (k0_pay51 x g) (k0_pay52 x g)) (ix2 r k)
      = code (fun k => x (ix2 r k)) (fun k => g (ix2 0 k)) (k0_pay48 x g (ix2 r 0)) k := by
  have hn : k0_pay23 (k0_pay45 x g) (k0_pay46 x g) (k0_pay48 x g) (FloatOps.ofBits FTy.f32 0x358637BD#32) (ix2 r k) = _ := norm_apply x g r k
  unfold code
  rw [← ldexpOne_neg_expo, ← hn]
  pointwise [k0_pay1, k0_pay44, k0_pay43, k0_pay42]
  rw [expo_apply, one_word', one_sign', one_field', one_normal', one_finite']
  generalize expo _ = e
  generalize k0_pay23 (k0_pay45 x g) (k0_pay46 x g) (k0_pay48 x g) (FloatOps.ofBits FTy.f32 0x358637BD#32) (ix2 r k) = z
  rfl

end Cert.QuantReference.Rows

end
-- ==== Proof.QuantReferenceArrays.lean ====
/- The arrays the quantising reference's run leaves: the codes and the scales of the argument's rows. -/
module

public import proofs.«01_k».proof.Proof.QuantReferenceBlocks

@[expose] public section

set_option maxRecDepth 16384

noncomputable section

namespace Cert.QuantReference.Rows

open Idealize.ShloMosaic Idealize.ShloMosaic.TcCoe Idealize.SL.Sem
open Idealize.ShloMosaic.Pipeline (Dat)
open Cert.QuantReference Cert.QuantReference.Gen
open Cert.Quantise

variable (m : (ℓ : Loc nD τ sig) → Buf (Elt Bits) ℓ) (ρ : Dev nD → PrngReg)

/-- The rows of the first argument, -/
def rows (c : Dev nD) : Fin 768 → Fin 16384 → Bits .bf16 := fun r k => m ((c : Thread nD τ).loc main_arg0) (ix3 0 r k)
/-- and the gain, the second. -/
def gain (c : Dev nD) : Fin 16384 → Bits .f32 := fun k => m ((c : Thread nD τ).loc main_arg1) (ix1 k)

/-! ## The buffers the host fills -/

theorem V_rows (c : Dev nD) : V m c main_v0 = shapeCast S768x16384 (m ((c : Thread nD τ).loc main_arg0)) shapeCasts_S1x768x16384_S768x16384 := by
  unfold_abbrev_sides
  after_results
  rfl
theorem V_gain (c : Dev nD) : V m c main_v1 = shapeCast S1x16384 (m ((c : Thread nD τ).loc main_arg1)) shapeCasts_S16384_S1x16384 := by
  unfold_abbrev_sides
  after_results
  rfl

theorem V_rows_apply (c : Dev nD) (r : Fin 768) (k : Fin 16384) : V m c main_v0 (ix2 r k) = rows m c r k := by
  rw [V_rows]
  refine (shapeCast_dropUnit_apply ![768, 16384] _ _ (ix2 r k)).trans ?_
  exact congrArg (m ((c : Thread nD τ).loc main_arg0)) (eq_ix3 _)
theorem V_gain_apply (c : Dev nD) (k : Fin 16384) : V m c main_v1 (ix2 0 k) = gain m c k := by
  rw [V_gain]
  refine (shapeCast_addUnit_apply ![16384] _ _ (ix2 0 k)).trans ?_
  exact congrArg (m ((c : Thread nD τ).loc main_arg1)) (eq_ix1 _)

/-! ## The windows' blocks, entry by entry -/

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel

theorem blk0_apply (c : Dev nD) (t : Fin cfg0.N) (r : Fin 768) (k : Fin 16384) :
    iblk m c 0 t (ix2 r k) = rows m c r k := by
  rw [← V_rows_apply m c]
  blk_ext [iblk, index0]
theorem blk1_apply (c : Dev nD) (t : Fin cfg0.N) (k : Fin 16384) : iblk m c 1 t (ix2 0 k) = gain m c k := by
  rw [← V_gain_apply m c]
  blk_ext [iblk, index1]

theorem blk0_row (c : Dev nD) (t : Fin cfg0.N) (r : Fin 768) :
    (fun k => iblk m c 0 t (ix2 r k)) = rows m c r := funext fun k => blk0_apply m c t r k
theorem blk0_rows (c : Dev nD) (t : Fin cfg0.N) : entries (iblk m c 0 t) = rows m c :=
  funext fun r => blk0_row m c t r
theorem blk1_gain (c : Dev nD) (t : Fin cfg0.N) : (fun k => iblk m c 1 t (ix2 0 k)) = gain m c :=
  funext fun k => blk1_apply m c t k
theorem blk_mean (c : Dev nD) (t : Fin cfg0.N) (r : Fin 768) :
    k0_pay48 (iblk m c 0 t) (iblk m c 1 t) (ix2 r 0) = rowMean (rows m c) r := by
  obtain ⟨b, i, rfl⟩ := exists_row r
  rw [rowMean_row, mean_apply, blk0_rows]

/-! ## The arrays the run leaves -/

/-- The codes' array after the run, -/
theorem arr2 (c : Dev nD) : (dats m 0 c).arrAt 2 cfg0.N = codes (rows m c) (gain m c) := by
  refine (dats m 0 c).arrAt_eq_of_covers 2 _ (by decide +kernel) fun t hf y => ?_
  blk_simp
  rw [after0_2]
  unfold out0_2
  frame_out
  obtain ⟨r, k, rfl⟩ : ∃ (r : Fin 768) (k : Fin 16384), y = ix2 r k := ⟨y 0, y 1, eq_ix2 y⟩
  have he : ((win0_2.blk t).view.emb (ix2 r k)) = ix2 r k := by
    blk_ext [index2]
  rw [he]
  refine (code_apply _ _ r k).trans ?_
  rw [blk0_row, blk1_gain, blk_mean]
  rfl
/-- and the scales'. -/
theorem arr3 (c : Dev nD) : (dats m 0 c).arrAt 3 cfg0.N = scales (rows m c) (gain m c) := by
  refine (dats m 0 c).arrAt_eq_of_covers 3 _ (by decide +kernel) fun t hf y => ?_
  blk_simp
  rw [after0_3]
  unfold out0_3
  frame_out
  obtain ⟨r, k, rfl⟩ : ∃ (r : Fin 768) (k : Fin 1), y = ix2 r k := ⟨y 0, y 1, eq_ix2 y⟩
  obtain rfl : k = 0 := Subsingleton.elim _ _
  have he : ((win0_3.blk t).view.emb (ix2 r 0)) = ix2 r 0 := by
    blk_ext [index3]
  rw [he]
  refine (scale_apply _ _ r).trans ?_
  rw [blk0_row, blk1_gain, blk_mean]
  rfl

/-! ## The run -/

/-- After the frame run the arguments are as launched: no window stages them. -/
theorem kept_main_arg0 (r : PUnit × MemSt nD τ sig (Elt Bits)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt Bits)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The run, its two results named and the arguments unchanged. -/
theorem run : θ_run defs (onTc (τ := τ) (main (F := Bits))) ⟨m, fun _ => 0, ρ⟩ fun r => ∀ c : Dev nD,
      r.2.mem ((c : Thread nD τ).loc main_v2_0) = codes (rows m c) (gain m c)
      ∧ r.2.mem ((c : Thread nD τ).loc main_v2_1) = scales (rows m c) (gain m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (arr2 m c), ((h c).1 3).trans (arr3 m c),
      kept_main_arg0 m r h c, kept_main_arg1 m r h c⟩)
    (run_main m ρ)

end Cert.QuantReference.Rows

end
-- ==== Proof.lean ====
/- The claim of proofs.«01_k».proof.Defs: the five frames, the equation between the projection's arrays
   (Proof/KernelArrays.lean) and its reference's (Proof/ReferenceArrays.lean), and the equation, word for word, between
   the quantiser's arrays (Proof/QuantArrays.lean) and its reference's (Proof/QuantReferenceArrays.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantReference
public import proofs.«01_k».proof.Proof.Gen.QuantReference.Skeleton
public import proofs.«01_k».proof.Proof.Gen.QuantReference.Launch
public import proofs.«01_k».proof.Proof.Gen.QuantReference.Points
public import proofs.«01_k».proof.Proof.Gen.QuantReference.Frame
public import proofs.«01_k».proof.Proof.BitsFrame
public import proofs.«01_k».proof.Proof.KernelFrame
public import proofs.«01_k».proof.Proof.KernelArrays
public import proofs.«01_k».proof.Proof.ReferenceArrays
public import proofs.«01_k».proof.Proof.QuantArrays
public import proofs.«01_k».proof.Proof.QuantReferenceArrays
public import Idealize.ShloMosaic.Adequacy
public import Idealize.ShloMosaic.Init

@[expose] public section

noncomputable section

namespace Cert.Proof

open Idealize.ShloMosaic Idealize.ShloMosaic.TcCoe Idealize.SL.Sem

/-- Both programs compute the inverse frequencies by the same lines. -/
theorem invFreq_eq : Cert.ReferenceIdeal.Proj.invFreq = Cert.KernelIdeal.Proj.invFreq := rfl

/-- Both runs leave the rotated columns of the scaled product of the arguments. -/
theorem algebraic : Cert.algebraic_KernelIdeal_ReferenceIdeal := by
  intro m g m' g' _ hargs
  refine ⟨fun c => Cert.Rotary.queries (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) Cert.KernelIdeal.Proj.invFreq,
    fun c => Cert.Rotary.keys (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) Cert.KernelIdeal.Proj.invFreq,
    fun c => Cert.Rotary.values (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    Cert.KernelIdeal.Proj.run m g, ?_⟩
  refine (θ_run Cert.ReferenceIdeal.defs _ _).mono (fun r h c => ?_) (Cert.ReferenceIdeal.Proj.run m' g')
  obtain ⟨h6, h7, h8, k0, k1, k2, k3, k4⟩ := h c
  obtain ⟨a0, a1, a2, a3, a4⟩ := hargs c
  refine ⟨h6.trans ?_, h7.trans ?_, h8.trans ?_, k0, k1, k2, k3, k4⟩
  · rw [a0, a1, a2, a3, a4, invFreq_eq]
  · rw [a0, a1, a2, a3, a4, invFreq_eq]
  · rw [a0, a1, a2, a3]

/-- The quantiser and its reference leave the same words. -/
theorem bitexact : Cert.bitexact_Quant_QuantReference := by
  intro m g m' g' _ hargs
  refine ⟨fun c => Cert.Quantise.codes (Cert.Quant.Rows.rows m c) (Cert.Quant.Rows.gain m c),
    fun c => Cert.Quantise.scales (Cert.Quant.Rows.rows m c) (Cert.Quant.Rows.gain m c),
    Cert.Quant.Rows.run m g, ?_⟩
  refine (θ_run Cert.QuantReference.defs _ _).mono (fun r h c => ?_) (Cert.QuantReference.Rows.run m' g')
  obtain ⟨h2, h3, k0, k1⟩ := h c
  obtain ⟨a0, a1⟩ := hargs c
  have hrows : Cert.QuantReference.Rows.rows m' c = Cert.Quant.Rows.rows m c :=
    funext fun r => funext fun k => congrFun a0 (ix3 0 r k)
  have hgain : Cert.QuantReference.Rows.gain m' c = Cert.Quant.Rows.gain m c :=
    funext fun k => congrFun a1 (ix1 k)
  refine ⟨h2.trans ?_, h3.trans ?_, k0, k1⟩
  · rw [hrows, hgain]
  · rw [hrows, hgain]

theorem claim : Cert.Claim :=
  ⟨Cert.Kernel.Gen.facts, Cert.KernelIdeal.Gen.facts, Cert.ReferenceIdeal.Gen.facts, Cert.Quant.Gen.facts,
    Cert.QuantReference.Gen.facts,
    fun m ρ _ => Cert.Kernel.Proj.frame m ρ, fun m ρ _ => Cert.KernelIdeal.Proj.frame m ρ,
    fun m ρ _ => Cert.ReferenceIdeal.Gen.frame m ρ, fun m ρ _ => Cert.Quant.Gen.frame m ρ,
    fun m ρ _ => Cert.QuantReference.Gen.frame m ρ, trivial, algebraic, bitexact⟩

end Cert.Proof

end
